-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_in_range [hPre_groups_in_range : Cert.Pre_groups_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_groups_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_in_range [hPre_groups_in_range : Cert.Pre_groups_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_groups_in_range [hKernelIdeal : Cert.KernelIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_in_range [hReferenceIdeal : Cert.ReferenceIdeal.Facts] [hPre_groups_in_range : Cert.Pre_groups_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_groups_in_range [hKernelIdeal : Cert.KernelIdeal.Facts] [hReferenceIdeal : Cert.ReferenceIdeal.Facts] [hPre_groups_in_range : Cert.Pre_groups_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_in_range : Cert.Pre_groups_in_range.Facts),
    quiescent_Kernel (hKernel := hKernel)
    ∧ quiescent_KernelIdeal (hKernelIdeal := hKernelIdeal)
    ∧ quiescent_KernelIdeal_pre_groups_in_range (hKernelIdeal := hKernelIdeal) (hPre_groups_in_range := hPre_groups_in_range)
    ∧ quiescent_ReferenceIdeal (hReferenceIdeal := hReferenceIdeal)
    ∧ quiescent_ReferenceIdeal_pre_groups_in_range (hReferenceIdeal := hReferenceIdeal) (hPre_groups_in_range := hPre_groups_in_range)
    ∧ preserves_Kernel_KernelIdeal
    ∧ algebraic_KernelIdeal_ReferenceIdeal_pre_groups_in_range (hKernelIdeal := hKernelIdeal) (hReferenceIdeal := hReferenceIdeal) (hPre_groups_in_range := hPre_groups_in_range)
-- ==== Pre_groups_in_range.lean ====
abbrev S4x512x2560 : Shape := ⟨3, ![4, 512, 2560]⟩
abbrev S1056x2560 : Shape := ⟨2, ![1056, 2560]⟩
abbrev S9x20 : Shape := ⟨2, ![9, 20]⟩
abbrev S768 : Shape := ⟨1, ![768]⟩
abbrev S256 : Shape := ⟨1, ![256]⟩
abbrev S2048x20x128 : Shape := ⟨3, ![2048, 20, 128]⟩
abbrev S_ : Shape := ⟨0, ![]⟩
abbrev S2048x20 : Shape := ⟨2, ![2048, 20]⟩

class Facts : Prop where
  shapeCasts_S4x512x2560_S2048x20x128 : S4x512x2560.ShapeCasts S2048x20x128
  bitsLt_bf16_f32 : FTy.bits .bf16 < FTy.bits .f32
  reducesTo_S2048x20x128_S2048x20_d2 : S2048x20x128.ReducesTo [2] S2048x20
  h_S_ : 0 < S_.numel
  bcast_S_S2048x20 : S_.BroadcastsInDim S2048x20 (![] : Fin 0 → Fin S2048x20.rank)

variable [Facts]

def fn {F : FTy → Type} [FloatOps F] (main_arg0 : FVec F S4x512x2560 .bf16) (main_arg1 : FVec F S1056x2560 .fp8e4m3) (main_arg2 : FVec F S9x20 .f32) (main_arg3 : FVec F S768 .f32) (main_arg4 : FVec F S256 .f32) : IVec S2048x20 1 :=
  let main_v0 : FVec F S2048x20x128 .bf16 := shapeCast S2048x20x128 main_arg0 shapeCasts_S4x512x2560_S2048x20x128
  let main_v1 : FVec F S2048x20x128 .f32 := (extf .f32 · bitsLt_bf16_f32) main_v0
  let main_v2 : FVec F S2048x20x128 .f32 := Host.absf main_v1
  let main_cst : FVec F S_ .f32 := constant S_ .f32 0xFF800000#32
  let main_v3 : FVec F S2048x20 .f32 := (fun x v => Host.reduce FloatOps.maximumf x v reducesTo_S2048x20x128_S2048x20_d2 h_S_) main_v2 main_cst
  let main_cst_0 : FVec F S_ .f32 := constant S_ .f32 0x3B124925#32
  let main_v4 : FVec F S2048x20 .f32 := broadcastInDim S2048x20 ![] bcast_S_S2048x20 main_cst_0
  let main_v5 : FVec F S2048x20 .f32 := mulf main_v3 main_v4
  let main_cst_1 : FVec F S_ .f32 := constant S_ .f32 0x00000000#32
  let main_v6 : FVec F S2048x20 .f32 := broadcastInDim S2048x20 ![] bcast_S_S2048x20 main_cst_1
  let main_v7 : IVec S2048x20 1 := cmpf .oeq main_v3 main_v6
  let main_cst_2 : FVec F S_ .f32 := constant S_ .f32 0x00800000#32
  let main_v8 : FVec F S2048x20 .f32 := broadcastInDim S2048x20 ![] bcast_S_S2048x20 main_cst_2
  let main_v9 : IVec S2048x20 1 := cmpf .oge main_v5 main_v8
  let main_cst_3 : FVec F S_ .f32 := constant S_ .f32 0x7E800000#32
  let main_v10 : FVec F S2048x20 .f32 := broadcastInDim S2048x20 ![] bcast_S_S2048x20 main_cst_3
  let main_v11 : IVec S2048x20 1 := cmpf .olt main_v5 main_v10
  let main_v12 : IVec S2048x20 1 := andi main_v9 main_v11
  let main_v13 : IVec S2048x20 1 := ori main_v7 main_v12
  main_v13
-- ==== Kernel.lean ====
abbrev S4x512x2560 : Shape := ⟨3, ![4, 512, 2560]⟩
abbrev S1056x2560 : Shape := ⟨2, ![1056, 2560]⟩
abbrev S9x20 : Shape := ⟨2, ![9, 20]⟩
abbrev S768 : Shape := ⟨1, ![768]⟩
abbrev S256 : Shape := ⟨1, ![256]⟩
abbrev S2048x2560 : Shape := ⟨2, ![2048, 2560]⟩
abbrev S1x768 : Shape := ⟨2, ![1, 768]⟩
abbrev S1x256 : Shape := ⟨2, ![1, 256]⟩
abbrev S2048x768 : Shape := ⟨2, ![2048, 768]⟩
abbrev S2048x256 : Shape := ⟨2, ![2048, 256]⟩
abbrev S2048x32 : Shape := ⟨2, ![2048, 32]⟩
abbrev S2048x20 : Shape := ⟨2, ![2048, 20]⟩
abbrev S256x2560 : Shape := ⟨2, ![256, 2560]⟩
abbrev S256x768 : Shape := ⟨2, ![256, 768]⟩
abbrev S256x256 : Shape := ⟨2, ![256, 256]⟩
abbrev S256x32 : Shape := ⟨2, ![256, 32]⟩
abbrev S256x20 : Shape := ⟨2, ![256, 20]⟩
abbrev S1x1 : Shape := ⟨2, ![1, 1]⟩
abbrev S128x128 : Shape := ⟨2, ![128, 128]⟩
abbrev S32x128 : Shape := ⟨2, ![32, 128]⟩
abbrev S256x128 : Shape := ⟨2, ![256, 128]⟩
abbrev S256x1 : Shape := ⟨2, ![256, 1]⟩
abbrev S256x1056 : Shape := ⟨2, ![256, 1056]⟩

abbrev nBuf : Space → Nat
  | .hbm => 13
  | .vmem => 17
  | .smem => 1
  | _ => 0

abbrev bufTy : (tb : Table) → Fin (tcTables nBuf tb) → BufTy
  | .hbm, ⟨0, _⟩ => ⟨S4x512x2560, .bf16⟩
  | .hbm, ⟨1, _⟩ => ⟨S1056x2560, .fp8e4m3⟩
  | .hbm, ⟨2, _⟩ => ⟨S9x20, .f32⟩
  | .hbm, ⟨3, _⟩ => ⟨S768, .f32⟩
  | .hbm, ⟨4, _⟩ => ⟨S256, .f32⟩
  | .hbm, ⟨5, _⟩ => ⟨S2048x2560, .bf16⟩
  | .hbm, ⟨6, _⟩ => ⟨S1x768, .f32⟩
  | .hbm, ⟨7, _⟩ => ⟨S1x256, .f32⟩
  | .hbm, ⟨8, _⟩ => ⟨S2048x768, .bf16⟩
  | .hbm, ⟨9, _⟩ => ⟨S2048x256, .bf16⟩
  | .hbm, ⟨10, _⟩ => ⟨S2048x32, .bf16⟩
  | .hbm, ⟨11, _⟩ => ⟨S2048x2560, .fp8e4m3⟩
  | .hbm, ⟨12, _⟩ => ⟨S2048x20, .f32⟩
  | .local _ .vmem, ⟨0, _⟩ => ⟨S256x2560, .bf16⟩
  | .local _ .vmem, ⟨1, _⟩ => ⟨S256x2560, .bf16⟩
  | .local _ .vmem, ⟨2, _⟩ => ⟨S1056x2560, .fp8e4m3⟩
  | .local _ .vmem, ⟨3, _⟩ => ⟨S1x768, .f32⟩
  | .local _ .vmem, ⟨4, _⟩ => ⟨S1x256, .f32⟩
  | .local _ .vmem, ⟨5, _⟩ => ⟨S256x768, .bf16⟩
  | .local _ .vmem, ⟨6, _⟩ => ⟨S256x768, .bf16⟩
  | .local _ .vmem, ⟨7, _⟩ => ⟨S256x256, .bf16⟩
  | .local _ .vmem, ⟨8, _⟩ => ⟨S256x256, .bf16⟩
  | .local _ .vmem, ⟨9, _⟩ => ⟨S256x32, .bf16⟩
  | .local _ .vmem, ⟨10, _⟩ => ⟨S256x32, .bf16⟩
  | .local _ .vmem, ⟨11, _⟩ => ⟨S256x2560, .fp8e4m3⟩
  | .local _ .vmem, ⟨12, _⟩ => ⟨S256x2560, .fp8e4m3⟩
  | .local _ .vmem, ⟨13, _⟩ => ⟨S256x20, .f32⟩
  | .local _ .vmem, ⟨14, _⟩ => ⟨S256x20, .f32⟩
  | .local _ .vmem, ⟨15, _⟩ => ⟨S1056x2560, .bf16⟩
  | .local _ .vmem, ⟨16, _⟩ => ⟨S256x2560, .bf16⟩
  | .local _ .smem, ⟨0, _⟩ => ⟨S9x20, .f32⟩
  | _, _ => ⟨S4x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S9x20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1056x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x32 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x20 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x512x2560 : Shape := ⟨3, ![4, 512, 2560]⟩
abbrev S1056x2560 : Shape := ⟨2, ![1056, 2560]⟩
abbrev S9x20 : Shape := ⟨2, ![9, 20]⟩
abbrev S768 : Shape := ⟨1, ![768]⟩
abbrev S256 : Shape := ⟨1, ![256]⟩
abbrev S2048x768 : Shape := ⟨2, ![2048, 768]⟩
abbrev S2048x256 : Shape := ⟨2, ![2048, 256]⟩
abbrev S2048x32 : Shape := ⟨2, ![2048, 32]⟩
abbrev S2048x2560 : Shape := ⟨2, ![2048, 2560]⟩
abbrev S2048x20 : Shape := ⟨2, ![2048, 20]⟩
abbrev S2048x20x128 : Shape := ⟨3, ![2048, 20, 128]⟩
abbrev S2048x20x1 : Shape := ⟨3, ![2048, 20, 1]⟩
abbrev S9x1x20 : Shape := ⟨3, ![9, 1, 20]⟩
abbrev S9x128x20 : Shape := ⟨3, ![9, 128, 20]⟩
abbrev S1152x20 : Shape := ⟨2, ![1152, 20]⟩
abbrev S1056x20 : Shape := ⟨2, ![1056, 20]⟩
abbrev S1056x20x128 : Shape := ⟨3, ![1056, 20, 128]⟩
abbrev S1056x20x1 : Shape := ⟨3, ![1056, 20, 1]⟩
abbrev S2048x1056 : Shape := ⟨2, ![2048, 1056]⟩
abbrev S2048 : Shape := ⟨1, ![2048]⟩
abbrev S2048x1 : Shape := ⟨2, ![2048, 1]⟩
abbrev S1x768 : Shape := ⟨2, ![1, 768]⟩
abbrev S1x256 : Shape := ⟨2, ![1, 256]⟩

abbrev nBuf : Space → Nat
  | .hbm => 10
  | .vmem => 10
  | .smem => 0
  | _ => 0

abbrev bufTy : (tb : Table) → Fin (tcTables nBuf tb) → BufTy
  | .hbm, ⟨0, _⟩ => ⟨S4x512x2560, .bf16⟩
  | .hbm, ⟨1, _⟩ => ⟨S1056x2560, .fp8e4m3⟩
  | .hbm, ⟨2, _⟩ => ⟨S9x20, .f32⟩
  | .hbm, ⟨3, _⟩ => ⟨S768, .f32⟩
  | .hbm, ⟨4, _⟩ => ⟨S256, .f32⟩
  | .hbm, ⟨5, _⟩ => ⟨S2048x768, .bf16⟩
  | .hbm, ⟨6, _⟩ => ⟨S2048x256, .bf16⟩
  | .hbm, ⟨7, _⟩ => ⟨S2048x32, .bf16⟩
  | .hbm, ⟨8, _⟩ => ⟨S2048x2560, .fp8e4m3⟩
  | .hbm, ⟨9, _⟩ => ⟨S2048x20, .f32⟩
  | .local _ .vmem, ⟨0, _⟩ => ⟨S4x512x2560, .bf16⟩
  | .local _ .vmem, ⟨1, _⟩ => ⟨S1056x2560, .fp8e4m3⟩
  | .local _ .vmem, ⟨2, _⟩ => ⟨S9x20, .f32⟩
  | .local _ .vmem, ⟨3, _⟩ => ⟨S768, .f32⟩
  | .local _ .vmem, ⟨4, _⟩ => ⟨S256, .f32⟩
  | .local _ .vmem, ⟨5, _⟩ => ⟨S2048x768, .bf16⟩
  | .local _ .vmem, ⟨6, _⟩ => ⟨S2048x256, .bf16⟩
  | .local _ .vmem, ⟨7, _⟩ => ⟨S2048x32, .bf16⟩
  | .local _ .vmem, ⟨8, _⟩ => ⟨S2048x2560, .fp8e4m3⟩
  | .local _ .vmem, ⟨9, _⟩ => ⟨S2048x20, .f32⟩
  | _, _ => ⟨S4x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x512x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1056x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2560 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.RefRun.lean ====
/- The run of the reference at one grid point: each result array is one function of the arguments. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2048x768.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S2048x256.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2048x32.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2048x2560.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2048x20.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_4) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_v0_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x512x2560.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 512 + 1 * (j 1).val = (j 1).val; omega
  | ⟨2, _⟩ => show win0_0.index t (2 : Fin 3) * 2560 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1056x2560.Idx) : ((cfg0.win 1).blk t).view.emb j = j := by
  obtain ⟨e0, e1⟩ := idx_zero1 t
  funext a; apply Fin.ext
  match a with
  | ⟨0, _⟩ => show win0_1.index t (0 : Fin 2) * 1056 + 1 * (j 0).val = (j 0).val; omega
  | ⟨1, _⟩ => show win0_1.index t (1 : Fin 2) * 2560 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S9x20.Idx) : ((cfg0.win 2).blk t).view.emb j = j := by
  obtain ⟨e0, e1⟩ := idx_zero2 t
  funext a; apply Fin.ext
  match a with
  | ⟨0, _⟩ => show win0_2.index t (0 : Fin 2) * 9 + 1 * (j 0).val = (j 0).val; omega
  | ⟨1, _⟩ => show win0_2.index t (1 : Fin 2) * 20 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S768.Idx) : ((cfg0.win 3).blk t).view.emb j = j := by
  have e0 := idx_zero3 t
  funext a; apply Fin.ext
  match a with
  | ⟨0, _⟩ => show win0_3.index t (0 : Fin 1) * 768 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S256.Idx) : ((cfg0.win 4).blk t).view.emb j = j := by
  have e0 := idx_zero4 t
  funext a; apply Fin.ext
  match a with
  | ⟨0, _⟩ => show win0_4.index t (0 : Fin 1) * 256 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S2048x768.Idx) : ((cfg0.win 5).blk t).view.emb j = j := by
  obtain ⟨e0, e1⟩ := idx_zero5 t
  funext a; apply Fin.ext
  match a with
  | ⟨0, _⟩ => show win0_5.index t (0 : Fin 2) * 2048 + 1 * (j 0).val = (j 0).val; omega
  | ⟨1, _⟩ => show win0_5.index t (1 : Fin 2) * 768 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S2048x256.Idx) : ((cfg0.win 6).blk t).view.emb j = j := by
  obtain ⟨e0, e1⟩ := idx_zero6 t
  funext a; apply Fin.ext
  match a with
  | ⟨0, _⟩ => show win0_6.index t (0 : Fin 2) * 2048 + 1 * (j 0).val = (j 0).val; omega
  | ⟨1, _⟩ => show win0_6.index t (1 : Fin 2) * 256 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S2048x32.Idx) : ((cfg0.win 7).blk t).view.emb j = j := by
  obtain ⟨e0, e1⟩ := idx_zero7 t
  funext a; apply Fin.ext
  match a with
  | ⟨0, _⟩ => show win0_7.index t (0 : Fin 2) * 2048 + 1 * (j 0).val = (j 0).val; omega
  | ⟨1, _⟩ => show win0_7.index t (1 : Fin 2) * 32 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S2048x2560.Idx) : ((cfg0.win 8).blk t).view.emb j = j := by
  obtain ⟨e0, e1⟩ := idx_zero8 t
  funext a; apply Fin.ext
  match a with
  | ⟨0, _⟩ => show win0_8.index t (0 : Fin 2) * 2048 + 1 * (j 0).val = (j 0).val; omega
  | ⟨1, _⟩ => show win0_8.index t (1 : Fin 2) * 2560 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S2048x20.Idx) : ((cfg0.win 9).blk t).view.emb j = j := by
  obtain ⟨e0, e1⟩ := idx_zero9 t
  funext a; apply Fin.ext
  match a with
  | ⟨0, _⟩ => show win0_9.index t (0 : Fin 2) * 2048 + 1 * (j 0).val = (j 0).val; omega
  | ⟨1, _⟩ => show win0_9.index t (1 : Fin 2) * 20 + 1 * (j 1).val = (j 1).val; omega

/-! ### Output window 5: the array after the run -/

/-- What the window's array ends holding: `out0_5` applied to the argument arrays in place of the input blocks (a value that the
    frame states apart, `kK_payN a…`, keeps its loads inside its own definition). -/
abbrev G5 (a0 : Vec F S4x512x2560 .bf16) (a1 : Vec F S1056x2560 .fp8e4m3) (a2 : Vec F S9x20 .f32) (a3 : Vec F S768 .f32) (a4 : Vec F S256 .f32) : Vec F S2048x768 .bf16 :=
  k0_pay9 (k0_pay11 a0 a1 a2 a3 a4) a2 a1 a3

/-- A load of the whole of a block reads the block, and the one store through the whole rectangle leaves its payload. -/
theorem out5_eq (a0 : Vec F S4x512x2560 .bf16) (a1 : Vec F S1056x2560 .fp8e4m3) (a2 : Vec F S9x20 .f32) (a3 : Vec F S768 .f32) (a4 : Vec F S256 .f32) : out0_5 (F := F) a0 a1 a2 a3 a4 = G5 a0 a1 a2 a3 a4 := by
  unfold out0_5
  rw [View.canon_unit_zero hz5, View.ld_unit_zero (S := S9x20) hz2 _ a2, View.ld_unit_zero (S := S1056x2560) hz1 _ a1, View.ld_unit_zero (S := S768) hz3 _ a3]

/-- Cutting the point's block out of `X` and reading `X` through the block's view give the same. -/
theorem cut5_eq (t : Fin cfg0.N) (X : Vec F S2048x768 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S2048x768.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S4x512x2560 .bf16) (a1 : Vec F S1056x2560 .fp8e4m3) (a2 : Vec F S9x20 .f32) (a3 : Vec F S768 .f32) (a4 : Vec F S256 .f32) : Vec F S2048x256 .bf16 :=
  k0_pay10 (k0_pay11 a0 a1 a2 a3 a4) a2 a1 a4

/-- A load of the whole of a block reads the block, and the one store through the whole rectangle leaves its payload. -/
theorem out6_eq (a0 : Vec F S4x512x2560 .bf16) (a1 : Vec F S1056x2560 .fp8e4m3) (a2 : Vec F S9x20 .f32) (a3 : Vec F S768 .f32) (a4 : Vec F S256 .f32) : out0_6 (F := F) a0 a1 a2 a3 a4 = G6 a0 a1 a2 a3 a4 := by
  unfold out0_6
  rw [View.canon_unit_zero hz6, View.ld_unit_zero (S := S9x20) hz2 _ a2, View.ld_unit_zero (S := S1056x2560) hz1 _ a1, View.ld_unit_zero (S := S256) hz4 _ a4]

/-- Cutting the point's block out of `X` and reading `X` through the block's view give the same. -/
theorem cut6_eq (t : Fin cfg0.N) (X : Vec F S2048x256 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S2048x256.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S4x512x2560 .bf16) (a1 : Vec F S1056x2560 .fp8e4m3) (a2 : Vec F S9x20 .f32) (a3 : Vec F S768 .f32) (a4 : Vec F S256 .f32) : Vec F S2048x32 .bf16 :=
  k0_pay1 (k0_pay8 (k0_pay11 a0 a1 a2 a3 a4) a2 a1)

/-- A load of the whole of a block reads the block, and the one store through the whole rectangle leaves its payload. -/
theorem out7_eq (a0 : Vec F S4x512x2560 .bf16) (a1 : Vec F S1056x2560 .fp8e4m3) (a2 : Vec F S9x20 .f32) (a3 : Vec F S768 .f32) (a4 : Vec F S256 .f32) : out0_7 (F := F) a0 a1 a2 a3 a4 = G7 a0 a1 a2 a3 a4 := by
  unfold out0_7
  rw [View.canon_unit_zero hz7, View.ld_unit_zero (S := S9x20) hz2 _ a2, View.ld_unit_zero (S := S1056x2560) hz1 _ a1]

/-- Cutting the point's block out of `X` and reading `X` through the block's view give the same. -/
theorem cut7_eq (t : Fin cfg0.N) (X : Vec F S2048x32 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S2048x32.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ### Output window 8: the array after the run -/

/-- What the window's array ends holding: `out0_8` applied to the argument arrays in place of the input blocks (a value that the
    frame states apart, `kK_payN a…`, keeps its loads inside its own definition). -/
abbrev G8 (a0 : Vec F S4x512x2560 .bf16) (a1 : Vec F S1056x2560 .fp8e4m3) (a2 : Vec F S9x20 .f32) (a3 : Vec F S768 .f32) (a4 : Vec F S256 .f32) : Vec F S2048x2560 .fp8e4m3 :=
  k0_pay6 a0

/-- A load of the whole of a block reads the block, and the one store through the whole rectangle leaves its payload. -/
theorem out8_eq (a0 : Vec F S4x512x2560 .bf16) (a1 : Vec F S1056x2560 .fp8e4m3) (a2 : Vec F S9x20 .f32) (a3 : Vec F S768 .f32) (a4 : Vec F S256 .f32) : out0_8 (F := F) a0 a1 a2 a3 a4 = G8 a0 a1 a2 a3 a4 := by
  unfold out0_8
  rw [View.canon_unit_zero hz8, View.ld_unit_zero (S := S4x512x2560) hz0 _ a0]

/-- Cutting the point's block out of `X` and reading `X` through the block's view give the same. -/
theorem cut8_eq (t : Fin cfg0.N) (X : Vec F S2048x2560 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4)) := by
  show (cfg0.win 8).cut (grid0.coords t) ((dats m 0 c).after 8 t) = _
  rw [after0_8, out8_eq, iblk0_eq, iblk1_eq, iblk2_eq, iblk3_eq, iblk4_eq]
  exact cut8_eq t _

/-- Every index of the array is in the point's block. -/
theorem covered8 (i : S2048x2560.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 8 (G8 (V m c main_arg0) (V m c main_arg1) (V m c main_arg2) (V m c main_arg3) (V m c main_arg4)) (fun t _ => flushed8_eq m c t) covered8).trans (by rw [V_main_arg0, V_main_arg1, V_main_arg2, V_main_arg3, V_main_arg4])

/-! ### Output window 9: the array after the run -/

/-- What the window's array ends holding: `out0_9` applied to the argument arrays in place of the input blocks (a value that the
    frame states apart, `kK_payN a…`, keeps its loads inside its own definition). -/
abbrev G9 (a0 : Vec F S4x512x2560 .bf16) (a1 : Vec F S1056x2560 .fp8e4m3) (a2 : Vec F S9x20 .f32) (a3 : Vec F S768 .f32) (a4 : Vec F S256 .f32) : Vec F S2048x20 .f32 :=
  k0_pay4 a0

/-- A load of the whole of a block reads the block, and the one store through the whole rectangle leaves its payload. -/
theorem out9_eq (a0 : Vec F S4x512x2560 .bf16) (a1 : Vec F S1056x2560 .fp8e4m3) (a2 : Vec F S9x20 .f32) (a3 : Vec F S768 .f32) (a4 : Vec F S256 .f32) : out0_9 (F := F) a0 a1 a2 a3 a4 = G9 a0 a1 a2 a3 a4 := by
  unfold out0_9
  rw [View.canon_unit_zero hz9, View.ld_unit_zero (S := S4x512x2560) hz0 _ a0]

/-- Cutting the point's block out of `X` and reading `X` through the block's view give the same. -/
theorem cut9_eq (t : Fin cfg0.N) (X : Vec F S2048x20 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4)) := by
  show (cfg0.win 9).cut (grid0.coords t) ((dats m 0 c).after 9 t) = _
  rw [after0_9, out9_eq, iblk0_eq, iblk1_eq, iblk2_eq, iblk3_eq, iblk4_eq]
  exact cut9_eq t _

/-- Every index of the array is in the point's block. -/
theorem covered9 (i : S2048x20.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 9 (G9 (V m c main_arg0) (V m c main_arg1) (V m c main_arg2) (V m c main_arg3) (V m c main_arg4)) (fun t _ => flushed9_eq m c t) covered9).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_4) = G9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c⟩)
    (run_main m ρ)

end Cert.ReferenceIdeal.Run

end
-- ==== Proof.Block.lean ====
/- What one step of the kernel leaves in its output blocks and in its two scratch arrays, as functions of the blocks it
   reads: the codes, the scales and the dequantised activations group of 128 columns by group, the dequantised weights, and
   the three outputs over the product of the last two. -/
module

public import proofs.«01_k».proof.Proof.Gen.KernelIdeal.Value
public import Idealize.ShloMosaic.Lib.ValueIdx

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx

variable {F : FTy → Type} [FloatOps F]

/-- The scales of the rows of one group. -/
def scl (v : Vec F S256x128 .bf16) : FVec F S256x1 .f32 := k0_pay222 v

/-- The codes of one group. -/
def cod (v : Vec F S256x128 .bf16) : FVec F S256x128 .fp8e4m3 := k0_pay224 (k0_pay223 v) (Scalar.ofBits .f32 0xC3E00000#32)

/-- The dequantised activations of one group. -/
def xat (v : Vec F S256x128 .bf16) : FVec F S256x128 .bf16 :=
  k0_pay225 (k0_pay222 v) (k0_pay223 v) (Scalar.ofBits .f32 0xC3E00000#32)

/-- Column `128 n + j` of a block of 2560 columns (read modulo 2560, so that every number names one). -/
def colAt (n : ℕ) (j : Fin 128) : Fin 2560 := ⟨(128 * n + j.val) % 2560, Nat.mod_lt _ (by decide)⟩

/-- Group `n` of a block of activations. -/
def colsOf (x1 : Vec F S256x2560 .bf16) (n : ℕ) : Vec F S256x128 .bf16 := fun j => x1 (ix2 (j 0) (colAt n (j 1)))

/-- The place of a column in its group. -/
def lane (k : Fin 2560) : Fin 128 := ⟨k.val % 128, Nat.mod_lt _ (by decide)⟩

/-- A function of one group, applied to every group of a block. -/
def grpB {α : Type} (f : Vec F S256x128 .bf16 → S256x128.Idx → α) (x1 : Vec F S256x2560 .bf16) : S256x2560.Idx → α :=
  fun i => f (colsOf x1 ((i 1).val / 128)) (ix2 (i 0) (lane (i 1)))

/-- The scales of a block. -/
def sclB (x1 : Vec F S256x2560 .bf16) : Vec F S256x20 .f32 := fun i => scl (colsOf x1 (i 1).val) (ix2 (i 0) (0 : Fin 1))

/-- The dequantised weights: each element times the scale of its block of 128 rows and 128 columns. -/
def waB (x0 : Vec F S9x20 .f32) (x2 : Vec F S1056x2560 .fp8e4m3) : Vec F S1056x2560 .bf16 := fun i =>
  FloatOps.mulf (FloatOps.extf .bf16 bitsLt_fp8e4m3_bf16 (x2 i))
    (FloatOps.truncf .bf16 bitsLt_bf16_f32 (x0 (ix2 (⟨(i 0).val / 128, by have := (i 0).isLt; simp at this; omega⟩ : Fin 9)
      (⟨(i 1).val / 128, by have := (i 1).isLt; simp at this; omega⟩ : Fin 20))))

theorem ld_cols (x1 : Vec F S256x2560 .bf16) (n : ℕ) (hn : n < 20)
    (inb : ∀ a, (![0, 128 * n] : Fin 2 → ℕ) a + S256x128.size a ≤ S256x2560.size a) :
    View.ld x1 (Rect.unit (s := S256x2560) ![0, 128 * n] S256x128.size inb) = colsOf x1 n := by
  funext j
  refine congrArg x1 (funext fun a => Fin.ext ?_)
  have h1 : (j 1).val < 128 := (j 1).isLt
  match a with
  | ⟨0, _⟩ => show 0 + 1 * (j 0).val = (j 0).val; omega
  | ⟨1, _⟩ => show 128 * n + 1 * (j 1).val = (128 * n + (j 1).val) % 2560; omega

theorem grpB_emb {α : Type} (f : Vec F S256x128 .bf16 → S256x128.Idx → α) (x1 : Vec F S256x2560 .bf16) (n : ℕ) (hn : n < 20)
    (inb : ∀ a, (![0, 128 * n] : Fin 2 → ℕ) a + S256x128.size a ≤ S256x2560.size a) (x : S256x128.Idx) :
    grpB f x1 ((Rect.unit (s := S256x2560) ![0, 128 * n] S256x128.size inb).emb x) = f (colsOf x1 n) x := by
  have h1 : (x 1).val < 128 := (x 1).isLt
  have e : ((Rect.unit (s := S256x2560) ![0, 128 * n] S256x128.size inb).emb x 1).val = 128 * n + (x 1).val := by
    show 128 * n + 1 * (x 1).val = _; omega
  unfold grpB
  rw [e, show (128 * n + (x 1).val) / 128 = n by omega]
  refine congrArg (f (colsOf x1 n)) (funext fun a => Fin.ext ?_)
  match a with
  | ⟨0, _⟩ => show 0 + 1 * (x 0).val = (x 0).val; omega
  | ⟨1, _⟩ =>
    show ((Rect.unit (s := S256x2560) ![0, 128 * n] S256x128.size inb).emb x 1).val % 128 = (x 1).val
    rw [e]; omega

/-- What is computed of the load of group `n` is that group's part of the whole block's value. -/
theorem piece {α : Type} (f : Vec F S256x128 .bf16 → S256x128.Idx → α) (arg2 : Memref sig .tc .vmem S256x2560 .bf16) (harg2 : arg2.IsWhole)
    (x1 : Vec F S256x2560 .bf16) (n : ℕ) (hn : n < 20)
    (inb : ∀ a, (![0, 128 * n] : Fin 2 → ℕ) a + S256x128.size a ≤ S256x2560.size a) (x : S256x128.Idx) :
    f (View.readAt (Elt F) arg2.view (Rect.unit (s := S256x2560) ![0, 128 * n] S256x128.size inb).toLoadRect (harg2.unread x1)) x
      = grpB f x1 ((Rect.unit (s := S256x2560) ![0, 128 * n] S256x128.size inb).emb x) := by
  rw [grpB_emb f x1 n hn inb x, View.readAt_eq_ld, harg2.read_unread, ld_cols x1 n hn inb]

end Cert.KernelIdeal.Block

end
-- ==== Proof.BlockCodes.lean ====
/- The pieces one step stores into the scratch of dequantised activations and into the block of codes, read as one function. -/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx

variable {F : FTy → Type} [FloatOps F]

/-- The scratch of dequantised activations, as case A leaves it. -/
theorem xa_A (c : Dev nD) (arg2 : Memref sig .tc .vmem S256x2560 .bf16) (harg2 : arg2.IsWhole) (x1 : Vec F S256x2560 .bf16) :
    View.canon (kernelRun0_A.sl.HS1_20 c arg2 harg2 x1) = grpB xat x1 := by
  funext y
  refine View.canon_apply_of_pieces (grpB xat x1) _ ?_ y (View.cover_of_tiledL (kernelRun0_A.sl.HS1_20 c arg2 harg2 x1) ![256, 128] (by sl_kernel_rfl) y)
  unfold kernelRun0_A.sl.HS1_20
  refine List.forall_mem_cons.2 ⟨fun x => piece xat arg2 harg2 x1 19 (by omega) _ x, ?_⟩
  refine List.forall_mem_cons.2 ⟨fun x => piece xat arg2 harg2 x1 18 (by omega) _ x, ?_⟩
  refine List.forall_mem_cons.2 ⟨fun x => piece xat arg2 harg2 x1 17 (by omega) _ x, ?_⟩
  refine List.forall_mem_cons.2 ⟨fun x => piece xat arg2 harg2 x1 16 (by omega) _ x, ?_⟩
  refine List.forall_mem_cons.2 ⟨fun x => piece xat arg2 harg2 x1 15 (by omega) _ x, ?_⟩
  refine List.forall_mem_cons.2 ⟨fun x => piece xat arg2 harg2 x1 14 (by omega) _ x, ?_⟩
  refine List.forall_mem_cons.2 ⟨fun x => piece xat arg2 harg2 x1 13 (by omega) _ x, ?_⟩
  refine List.forall_mem_cons.2 ⟨fun x => piece xat arg2 harg2 x1 12 (by omega) _ x, ?_⟩
  refine List.forall_mem_cons.2 ⟨fun x => piece xat arg2 harg2 x1 11 (by omega) _ x, ?_⟩
  refine List.forall_mem_cons.2 ⟨fun x => piece xat arg2 harg2 x1 10 (by omega) _ x, ?_⟩
  refine List.forall_mem_cons.2 ⟨fun x => piece xat arg2 harg2 x1 9 (by omega) _ x, ?_⟩
  refine List.forall_mem_cons.2 ⟨fun x => piece xat arg2 harg2 x1 8 (by omega) _ x, ?_⟩
  refine List.forall_mem_cons.2 ⟨fun x => piece xat arg2 harg2 x1 7 (by omega) _ x, ?_⟩
  refine List.forall_mem_cons.2 ⟨fun x => piece xat arg2 harg2 x1 6 (by omega) _ x, ?_⟩
  refine List.forall_mem_cons.2 ⟨fun x => piece xat arg2 harg2 x1 5 (by omega) _ x, ?_⟩
  refine List.forall_mem_cons.2 ⟨fun x => piece xat arg2 harg2 x1 4 (by omega) _ x, ?_⟩
  refine List.forall_mem_cons.2 ⟨fun x => piece xat arg2 harg2 x1 3 (by omega) _ x, ?_⟩
  refine List.forall_mem_cons.2 ⟨fun x => piece xat arg2 harg2 x1 2 (by omega) _ x, ?_⟩
  refine List.forall_mem_cons.2 ⟨fun x => piece xat arg2 harg2 x1 1 (by omega) _ x, ?_⟩
  refine List.forall_mem_cons.2 ⟨fun x => piece xat arg2 harg2 x1 0 (by omega) _ x, ?_⟩
  exact fun p hp => nomatch hp

/-- The block of codes case A leaves. -/
theorem out8_A (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : cond0_0 i)
    (x0 : Vec F S9x20 .f32) (x1 : Vec F S256x2560 .bf16) (x2 : Vec F S1056x2560 .fp8e4m3) (x3 : Vec F S1x768 .f32) (x4 : Vec F S1x256 .f32) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 = grpB cod x1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4)]
  funext y
  refine View.canon_apply_of_pieces (grpB cod x1) _ ?_ y (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 y)
  unfold kernelRun0_A
  dsimp only
  refine List.forall_mem_cons.2 ⟨fun x => piece cod arg2 harg2 x1 19 (by omega) _ x, ?_⟩
  refine List.forall_mem_cons.2 ⟨fun x => piece cod arg2 harg2 x1 18 (by omega) _ x, ?_⟩
  refine List.forall_mem_cons.2 ⟨fun x => piece cod arg2 harg2 x1 17 (by omega) _ x, ?_⟩
  refine List.forall_mem_cons.2 ⟨fun x => piece cod arg2 harg2 x1 16 (by omega) _ x, ?_⟩
  refine List.forall_mem_cons.2 ⟨fun x => piece cod arg2 harg2 x1 15 (by omega) _ x, ?_⟩
  refine List.forall_mem_cons.2 ⟨fun x => piece cod arg2 harg2 x1 14 (by omega) _ x, ?_⟩
  refine List.forall_mem_cons.2 ⟨fun x => piece cod arg2 harg2 x1 13 (by omega) _ x, ?_⟩
  refine List.forall_mem_cons.2 ⟨fun x => piece cod arg2 harg2 x1 12 (by omega) _ x, ?_⟩
  refine List.forall_mem_cons.2 ⟨fun x => piece cod arg2 harg2 x1 11 (by omega) _ x, ?_⟩
  refine List.forall_mem_cons.2 ⟨fun x => piece cod arg2 harg2 x1 10 (by omega) _ x, ?_⟩
  refine List.forall_mem_cons.2 ⟨fun x => piece cod arg2 harg2 x1 9 (by omega) _ x, ?_⟩
  refine List.forall_mem_cons.2 ⟨fun x => piece cod arg2 harg2 x1 8 (by omega) _ x, ?_⟩
  refine List.forall_mem_cons.2 ⟨fun x => piece cod arg2 harg2 x1 7 (by omega) _ x, ?_⟩
  refine List.forall_mem_cons.2 ⟨fun x => piece cod arg2 harg2 x1 6 (by omega) _ x, ?_⟩
  refine List.forall_mem_cons.2 ⟨fun x => piece cod arg2 harg2 x1 5 (by omega) _ x, ?_⟩
  refine List.forall_mem_cons.2 ⟨fun x => piece cod arg2 harg2 x1 4 (by omega) _ x, ?_⟩
  refine List.forall_mem_cons.2 ⟨fun x => piece cod arg2 harg2 x1 3 (by omega) _ x, ?_⟩
  refine List.forall_mem_cons.2 ⟨fun x => piece cod arg2 harg2 x1 2 (by omega) _ x, ?_⟩
  refine List.forall_mem_cons.2 ⟨fun x => piece cod arg2 harg2 x1 1 (by omega) _ x, ?_⟩
  refine List.forall_mem_cons.2 ⟨fun x => piece cod arg2 harg2 x1 0 (by omega) _ x, ?_⟩
  exact fun p hp => nomatch hp

/-- The scratch of dequantised activations, as case B leaves it. -/
theorem xa_B (c : Dev nD) (arg2 : Memref sig .tc .vmem S256x2560 .bf16) (harg2 : arg2.IsWhole) (x1 : Vec F S256x2560 .bf16) :
    View.canon (kernelRun0_B.sl.HS1_20 c arg2 harg2 x1) = grpB xat x1 := by
  funext y
  refine View.canon_apply_of_pieces (grpB xat x1) _ ?_ y (View.cover_of_tiledL (kernelRun0_B.sl.HS1_20 c arg2 harg2 x1) ![256, 128] (by sl_kernel_rfl) y)
  unfold kernelRun0_B.sl.HS1_20
  refine List.forall_mem_cons.2 ⟨fun x => piece xat arg2 harg2 x1 19 (by omega) _ x, ?_⟩
  refine List.forall_mem_cons.2 ⟨fun x => piece xat arg2 harg2 x1 18 (by omega) _ x, ?_⟩
  refine List.forall_mem_cons.2 ⟨fun x => piece xat arg2 harg2 x1 17 (by omega) _ x, ?_⟩
  refine List.forall_mem_cons.2 ⟨fun x => piece xat arg2 harg2 x1 16 (by omega) _ x, ?_⟩
  refine List.forall_mem_cons.2 ⟨fun x => piece xat arg2 harg2 x1 15 (by omega) _ x, ?_⟩
  refine List.forall_mem_cons.2 ⟨fun x => piece xat arg2 harg2 x1 14 (by omega) _ x, ?_⟩
  refine List.forall_mem_cons.2 ⟨fun x => piece xat arg2 harg2 x1 13 (by omega) _ x, ?_⟩
  refine List.forall_mem_cons.2 ⟨fun x => piece xat arg2 harg2 x1 12 (by omega) _ x, ?_⟩
  refine List.forall_mem_cons.2 ⟨fun x => piece xat arg2 harg2 x1 11 (by omega) _ x, ?_⟩
  refine List.forall_mem_cons.2 ⟨fun x => piece xat arg2 harg2 x1 10 (by omega) _ x, ?_⟩
  refine List.forall_mem_cons.2 ⟨fun x => piece xat arg2 harg2 x1 9 (by omega) _ x, ?_⟩
  refine List.forall_mem_cons.2 ⟨fun x => piece xat arg2 harg2 x1 8 (by omega) _ x, ?_⟩
  refine List.forall_mem_cons.2 ⟨fun x => piece xat arg2 harg2 x1 7 (by omega) _ x, ?_⟩
  refine List.forall_mem_cons.2 ⟨fun x => piece xat arg2 harg2 x1 6 (by omega) _ x, ?_⟩
  refine List.forall_mem_cons.2 ⟨fun x => piece xat arg2 harg2 x1 5 (by omega) _ x, ?_⟩
  refine List.forall_mem_cons.2 ⟨fun x => piece xat arg2 harg2 x1 4 (by omega) _ x, ?_⟩
  refine List.forall_mem_cons.2 ⟨fun x => piece xat arg2 harg2 x1 3 (by omega) _ x, ?_⟩
  refine List.forall_mem_cons.2 ⟨fun x => piece xat arg2 harg2 x1 2 (by omega) _ x, ?_⟩
  refine List.forall_mem_cons.2 ⟨fun x => piece xat arg2 harg2 x1 1 (by omega) _ x, ?_⟩
  refine List.forall_mem_cons.2 ⟨fun x => piece xat arg2 harg2 x1 0 (by omega) _ x, ?_⟩
  exact fun p hp => nomatch hp

/-- The block of codes case B leaves. -/
theorem out8_B (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : ¬cond0_0 i)
    (x0 : Vec F S9x20 .f32) (x1 : Vec F S256x2560 .bf16) (x2 : Vec F S1056x2560 .fp8e4m3) (x3 : Vec F S1x768 .f32) (x4 : Vec F S1x256 .f32) (xs0 : Vec F S1056x2560 .bf16) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 = grpB cod x1 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  funext y
  refine View.canon_apply_of_pieces (grpB cod x1) _ ?_ y (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 y)
  unfold kernelRun0_B
  dsimp only
  refine List.forall_mem_cons.2 ⟨fun x => piece cod arg2 harg2 x1 19 (by omega) _ x, ?_⟩
  refine List.forall_mem_cons.2 ⟨fun x => piece cod arg2 harg2 x1 18 (by omega) _ x, ?_⟩
  refine List.forall_mem_cons.2 ⟨fun x => piece cod arg2 harg2 x1 17 (by omega) _ x, ?_⟩
  refine List.forall_mem_cons.2 ⟨fun x => piece cod arg2 harg2 x1 16 (by omega) _ x, ?_⟩
  refine List.forall_mem_cons.2 ⟨fun x => piece cod arg2 harg2 x1 15 (by omega) _ x, ?_⟩
  refine List.forall_mem_cons.2 ⟨fun x => piece cod arg2 harg2 x1 14 (by omega) _ x, ?_⟩
  refine List.forall_mem_cons.2 ⟨fun x => piece cod arg2 harg2 x1 13 (by omega) _ x, ?_⟩
  refine List.forall_mem_cons.2 ⟨fun x => piece cod arg2 harg2 x1 12 (by omega) _ x, ?_⟩
  refine List.forall_mem_cons.2 ⟨fun x => piece cod arg2 harg2 x1 11 (by omega) _ x, ?_⟩
  refine List.forall_mem_cons.2 ⟨fun x => piece cod arg2 harg2 x1 10 (by omega) _ x, ?_⟩
  refine List.forall_mem_cons.2 ⟨fun x => piece cod arg2 harg2 x1 9 (by omega) _ x, ?_⟩
  refine List.forall_mem_cons.2 ⟨fun x => piece cod arg2 harg2 x1 8 (by omega) _ x, ?_⟩
  refine List.forall_mem_cons.2 ⟨fun x => piece cod arg2 harg2 x1 7 (by omega) _ x, ?_⟩
  refine List.forall_mem_cons.2 ⟨fun x => piece cod arg2 harg2 x1 6 (by omega) _ x, ?_⟩
  refine List.forall_mem_cons.2 ⟨fun x => piece cod arg2 harg2 x1 5 (by omega) _ x, ?_⟩
  refine List.forall_mem_cons.2 ⟨fun x => piece cod arg2 harg2 x1 4 (by omega) _ x, ?_⟩
  refine List.forall_mem_cons.2 ⟨fun x => piece cod arg2 harg2 x1 3 (by omega) _ x, ?_⟩
  refine List.forall_mem_cons.2 ⟨fun x => piece cod arg2 harg2 x1 2 (by omega) _ x, ?_⟩
  refine List.forall_mem_cons.2 ⟨fun x => piece cod arg2 harg2 x1 1 (by omega) _ x, ?_⟩
  refine List.forall_mem_cons.2 ⟨fun x => piece cod arg2 harg2 x1 0 (by omega) _ x, ?_⟩
  exact fun p hp => nomatch hp

end Cert.KernelIdeal.Block

end
-- ==== Proof.BlockWeights.lean ====
/- The 180 blocks of dequantised weights that the first step stores, read as one function. -/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx

variable {F : FTy → Type} [FloatOps F]

/-- The weights of one block times its scale: element by element what the whole dequantised array holds there. -/
theorem wpiece {rows : ℕ} (arg1 : Memref sig .tc .smem S9x20 .f32) (harg1 : arg1.IsWhole) (arg3 : Memref sig .tc .vmem S1056x2560 .fp8e4m3) (harg3 : arg3.IsWhole)
    (x0 : Vec F S9x20 .f32) (x2 : Vec F S1056x2560 .fp8e4m3) (b g : ℕ) (hr : rows ≤ 128) (hb : b < 9) (hg : g < 20)
    (ins : ∀ a, (![b, g] : Fin 2 → ℕ) a + S1x1.size a ≤ S9x20.size a) (hf)
    (hc : (⟨2, ![rows, 128]⟩ : Shape).ShapeCasts ⟨2, ![rows, 128]⟩)
    (inb : ∀ a, (![128 * b, 128 * g] : Fin 2 → ℕ) a + (⟨2, ![rows, 128]⟩ : Shape).size a ≤ S1056x2560.size a)
    (x : (⟨2, ![rows, 128]⟩ : Shape).Idx) :
    shapeCast (⟨2, ![rows, 128]⟩ : Shape) (mulf (extf .bf16 (View.readAt (Elt F) arg3.view (Rect.unit (s := S1056x2560) ![128 * b, 128 * g] (⟨2, ![rows, 128]⟩ : Shape).size inb).toLoadRect (harg3.unread x2) : FVec F (⟨2, ![rows, 128]⟩ : Shape) .fp8e4m3) bitsLt_fp8e4m3_bf16)
        (truncf .bf16 (broadcast (⟨2, ![rows, 128]⟩ : Shape) (View.readAt (Elt F) arg1.view (Rect.unit (s := S9x20) ![b, g] S1x1.size ins).toLoadRect (harg1.unread x0) (Shape.Idx.first hf)) : FVec F (⟨2, ![rows, 128]⟩ : Shape) .f32) bitsLt_bf16_f32)) hc x
      = waB x0 x2 ((Rect.unit (s := S1056x2560) ![128 * b, 128 * g] (⟨2, ![rows, 128]⟩ : Shape).size inb).emb x) := by
  have h0 : (x 0).val < rows := (x 0).isLt
  have h1 : (x 1).val < 128 := (x 1).isLt
  refine (congrFun (shapeCast_self _ hc) x).trans ?_
  rw [View.readAt_eq_ld, harg3.read_unread, View.readAt_eq_ld, harg1.read_unread]
  unfold waB
  have e : View.ld x0 (Rect.unit (s := S9x20) ![b, g] S1x1.size ins) (Shape.Idx.first hf)
      = x0 (ix2 (⟨((Rect.unit (s := S1056x2560) ![128 * b, 128 * g] (⟨2, ![rows, 128]⟩ : Shape).size inb).emb x 0).val / 128, by
          have : ((Rect.unit (s := S1056x2560) ![128 * b, 128 * g] (⟨2, ![rows, 128]⟩ : Shape).size inb).emb x 0).val < 1056 := Fin.isLt _
          omega⟩ : Fin 9)
        (⟨((Rect.unit (s := S1056x2560) ![128 * b, 128 * g] (⟨2, ![rows, 128]⟩ : Shape).size inb).emb x 1).val / 128, by
          have : ((Rect.unit (s := S1056x2560) ![128 * b, 128 * g] (⟨2, ![rows, 128]⟩ : Shape).size inb).emb x 1).val < 2560 := Fin.isLt _
          omega⟩ : Fin 20)) := by
    refine congrArg x0 (funext fun a => Fin.ext ?_)
    match a with
    | ⟨0, _⟩ => show b + 1 * 0 = (128 * b + 1 * (x 0).val) / 128; omega
    | ⟨1, _⟩ => show g + 1 * 0 = (128 * g + 1 * (x 1).val) / 128; omega
  show FloatOps.mulf _ (FloatOps.truncf .bf16 bitsLt_bf16_f32 _) = _
  rw [broadcast_apply, e]
  rfl

set_option maxHeartbeats 4000000 in
/-- The scratch of dequantised weights, as the first step leaves it. -/
theorem wa_A (c : Dev nD) (arg1 : Memref sig .tc .smem S9x20 .f32) (harg1 : arg1.IsWhole) (arg3 : Memref sig .tc .vmem S1056x2560 .fp8e4m3) (harg3 : arg3.IsWhole)
    (x0 : Vec F S9x20 .f32) (x2 : Vec F S1056x2560 .fp8e4m3) :
    View.canon (kernelRun0_A.sl.HS0_180 c arg1 harg1 arg3 harg3 x0 x2) = waB x0 x2 := by
  funext y
  refine View.canon_apply_of_pieces (waB x0 x2) _ ?_ y (View.cover_of_tiledBy (kernelRun0_A.sl.HS0_180 c arg1 harg1 arg3 harg3 x0 x2) ![32, 128] (by sl_kernel_rfl) y)
  unfold kernelRun0_A.sl.HS0_180
  refine List.forall_mem_cons.2 ⟨fun x => wpiece (rows := 32) arg1 harg1 arg3 harg3 x0 x2 8 19 (by omega) (by omega) (by omega) _ _ _ _ x, ?_⟩
  refine List.forall_mem_cons.2 ⟨fun x => wpiece (rows := 32) arg1 harg1 arg3 harg3 x0 x2 8 18 (by omega) (by omega) (by omega) _ _ _ _ x, ?_⟩
  refine List.forall_mem_cons.2 ⟨fun x => wpiece (rows := 32) arg1 harg1 arg3 harg3 x0 x2 8 17 (by omega) (by omega) (by omega) _ _ _ _ x, ?_⟩
  refine List.forall_mem_cons.2 ⟨fun x => wpiece (rows := 32) arg1 harg1 arg3 harg3 x0 x2 8 16 (by omega) (by omega) (by omega) _ _ _ _ x, ?_⟩
  refine List.forall_mem_cons.2 ⟨fun x => wpiece (rows := 32) arg1 harg1 arg3 harg3 x0 x2 8 15 (by omega) (by omega) (by omega) _ _ _ _ x, ?_⟩
  refine List.forall_mem_cons.2 ⟨fun x => wpiece (rows := 32) arg1 harg1 arg3 harg3 x0 x2 8 14 (by omega) (by omega) (by omega) _ _ _ _ x, ?_⟩
  refine List.forall_mem_cons.2 ⟨fun x => wpiece (rows := 32) arg1 harg1 arg3 harg3 x0 x2 8 13 (by omega) (by omega) (by omega) _ _ _ _ x, ?_⟩
  refine List.forall_mem_cons.2 ⟨fun x => wpiece (rows := 32) arg1 harg1 arg3 harg3 x0 x2 8 12 (by omega) (by omega) (by omega) _ _ _ _ x, ?_⟩
  refine List.forall_mem_cons.2 ⟨fun x => wpiece (rows := 32) arg1 harg1 arg3 harg3 x0 x2 8 11 (by omega) (by omega) (by omega) _ _ _ _ x, ?_⟩
  refine List.forall_mem_cons.2 ⟨fun x => wpiece (rows := 32) arg1 harg1 arg3 harg3 x0 x2 8 10 (by omega) (by omega) (by omega) _ _ _ _ x, ?_⟩
  refine List.forall_mem_cons.2 ⟨fun x => wpiece (rows := 32) arg1 harg1 arg3 harg3 x0 x2 8 9 (by omega) (by omega) (by omega) _ _ _ _ x, ?_⟩
  refine List.forall_mem_cons.2 ⟨fun x => wpiece (rows := 32) arg1 harg1 arg3 harg3 x0 x2 8 8 (by omega) (by omega) (by omega) _ _ _ _ x, ?_⟩
  refine List.forall_mem_cons.2 ⟨fun x => wpiece (rows := 32) arg1 harg1 arg3 harg3 x0 x2 8 7 (by omega) (by omega) (by omega) _ _ _ _ x, ?_⟩
  refine List.forall_mem_cons.2 ⟨fun x => wpiece (rows := 32) arg1 harg1 arg3 harg3 x0 x2 8 6 (by omega) (by omega) (by omega) _ _ _ _ x, ?_⟩
  refine List.forall_mem_cons.2 ⟨fun x => wpiece (rows := 32) arg1 harg1 arg3 harg3 x0 x2 8 5 (by omega) (by omega) (by omega) _ _ _ _ x, ?_⟩
  refine List.forall_mem_cons.2 ⟨fun x => wpiece (rows := 32) arg1 harg1 arg3 harg3 x0 x2 8 4 (by omega) (by omega) (by omega) _ _ _ _ x, ?_⟩
  refine List.forall_mem_cons.2 ⟨fun x => wpiece (rows := 32) arg1 harg1 arg3 harg3 x0 x2 8 3 (by omega) (by omega) (by omega) _ _ _ _ x, ?_⟩
  refine List.forall_mem_cons.2 ⟨fun x => wpiece (rows := 32) arg1 harg1 arg3 harg3 x0 x2 8 2 (by omega) (by omega) (by omega) _ _ _ _ x, ?_⟩
  refine List.forall_mem_cons.2 ⟨fun x => wpiece (rows := 32) arg1 harg1 arg3 harg3 x0 x2 8 1 (by omega) (by omega) (by omega) _ _ _ _ x, ?_⟩
  refine List.forall_mem_cons.2 ⟨fun x => wpiece (rows := 32) arg1 harg1 arg3 harg3 x0 x2 8 0 (by omega) (by omega) (by omega) _ _ _ _ x, ?_⟩
  refine List.forall_mem_cons.2 ⟨fun x => wpiece (rows := 128) arg1 harg1 arg3 harg3 x0 x2 7 19 (by omega) (by omega) (by omega) _ _ _ _ x, ?_⟩
  refine List.forall_mem_cons.2 ⟨fun x => wpiece (rows := 128) arg1 harg1 arg3 harg3 x0 x2 7 18 (by omega) (by omega) (by omega) _ _ _ _ x, ?_⟩
  refine List.forall_mem_cons.2 ⟨fun x => wpiece (rows := 128) arg1 harg1 arg3 harg3 x0 x2 7 17 (by omega) (by omega) (by omega) _ _ _ _ x, ?_⟩
  refine List.forall_mem_cons.2 ⟨fun x => wpiece (rows := 128) arg1 harg1 arg3 harg3 x0 x2 7 16 (by omega) (by omega) (by omega) _ _ _ _ x, ?_⟩
  refine List.forall_mem_cons.2 ⟨fun x => wpiece (rows := 128) arg1 harg1 arg3 harg3 x0 x2 7 15 (by omega) (by omega) (by omega) _ _ _ _ x, ?_⟩
  refine List.forall_mem_cons.2 ⟨fun x => wpiece (rows := 128) arg1 harg1 arg3 harg3 x0 x2 7 14 (by omega) (by omega) (by omega) _ _ _ _ x, ?_⟩
  refine List.forall_mem_cons.2 ⟨fun x => wpiece (rows := 128) arg1 harg1 arg3 harg3 x0 x2 7 13 (by omega) (by omega) (by omega) _ _ _ _ x, ?_⟩
  refine List.forall_mem_cons.2 ⟨fun x => wpiece (rows := 128) arg1 harg1 arg3 harg3 x0 x2 7 12 (by omega) (by omega) (by omega) _ _ _ _ x, ?_⟩
  refine List.forall_mem_cons.2 ⟨fun x => wpiece (rows := 128) arg1 harg1 arg3 harg3 x0 x2 7 11 (by omega) (by omega) (by omega) _ _ _ _ x, ?_⟩
  refine List.forall_mem_cons.2 ⟨fun x => wpiece (rows := 128) arg1 harg1 arg3 harg3 x0 x2 7 10 (by omega) (by omega) (by omega) _ _ _ _ x, ?_⟩
  refine List.forall_mem_cons.2 ⟨fun x => wpiece (rows := 128) arg1 harg1 arg3 harg3 x0 x2 7 9 (by omega) (by omega) (by omega) _ _ _ _ x, ?_⟩
  refine List.forall_mem_cons.2 ⟨fun x => wpiece (rows := 128) arg1 harg1 arg3 harg3 x0 x2 7 8 (by omega) (by omega) (by omega) _ _ _ _ x, ?_⟩
  refine List.forall_mem_cons.2 ⟨fun x => wpiece (rows := 128) arg1 harg1 arg3 harg3 x0 x2 7 7 (by omega) (by omega) (by omega) _ _ _ _ x, ?_⟩
  refine List.forall_mem_cons.2 ⟨fun x => wpiece (rows := 128) arg1 harg1 arg3 harg3 x0 x2 7 6 (by omega) (by omega) (by omega) _ _ _ _ x, ?_⟩
  refine List.forall_mem_cons.2 ⟨fun x => wpiece (rows := 128) arg1 harg1 arg3 harg3 x0 x2 7 5 (by omega) (by omega) (by omega) _ _ _ _ x, ?_⟩
  refine List.forall_mem_cons.2 ⟨fun x => wpiece (rows := 128) arg1 harg1 arg3 harg3 x0 x2 7 4 (by omega) (by omega) (by omega) _ _ _ _ x, ?_⟩
  refine List.forall_mem_cons.2 ⟨fun x => wpiece (rows := 128) arg1 harg1 arg3 harg3 x0 x2 7 3 (by omega) (by omega) (by omega) _ _ _ _ x, ?_⟩
  refine List.forall_mem_cons.2 ⟨fun x => wpiece (rows := 128) arg1 harg1 arg3 harg3 x0 x2 7 2 (by omega) (by omega) (by omega) _ _ _ _ x, ?_⟩
  refine List.forall_mem_cons.2 ⟨fun x => wpiece (rows := 128) arg1 harg1 arg3 harg3 x0 x2 7 1 (by omega) (by omega) (by omega) _ _ _ _ x, ?_⟩
  refine List.forall_mem_cons.2 ⟨fun x => wpiece (rows := 128) arg1 harg1 arg3 harg3 x0 x2 7 0 (by omega) (by omega) (by omega) _ _ _ _ x, ?_⟩
  refine List.forall_mem_cons.2 ⟨fun x => wpiece (rows := 128) arg1 harg1 arg3 harg3 x0 x2 6 19 (by omega) (by omega) (by omega) _ _ _ _ x, ?_⟩
  refine List.forall_mem_cons.2 ⟨fun x => wpiece (rows := 128) arg1 harg1 arg3 harg3 x0 x2 6 18 (by omega) (by omega) (by omega) _ _ _ _ x, ?_⟩
  refine List.forall_mem_cons.2 ⟨fun x => wpiece (rows := 128) arg1 harg1 arg3 harg3 x0 x2 6 17 (by omega) (by omega) (by omega) _ _ _ _ x, ?_⟩
  refine List.forall_mem_cons.2 ⟨fun x => wpiece (rows := 128) arg1 harg1 arg3 harg3 x0 x2 6 16 (by omega) (by omega) (by omega) _ _ _ _ x, ?_⟩
  refine List.forall_mem_cons.2 ⟨fun x => wpiece (rows := 128) arg1 harg1 arg3 harg3 x0 x2 6 15 (by omega) (by omega) (by omega) _ _ _ _ x, ?_⟩
  refine List.forall_mem_cons.2 ⟨fun x => wpiece (rows := 128) arg1 harg1 arg3 harg3 x0 x2 6 14 (by omega) (by omega) (by omega) _ _ _ _ x, ?_⟩
  refine List.forall_mem_cons.2 ⟨fun x => wpiece (rows := 128) arg1 harg1 arg3 harg3 x0 x2 6 13 (by omega) (by omega) (by omega) _ _ _ _ x, ?_⟩
  refine List.forall_mem_cons.2 ⟨fun x => wpiece (rows := 128) arg1 harg1 arg3 harg3 x0 x2 6 12 (by omega) (by omega) (by omega) _ _ _ _ x, ?_⟩
  refine List.forall_mem_cons.2 ⟨fun x => wpiece (rows := 128) arg1 harg1 arg3 harg3 x0 x2 6 11 (by omega) (by omega) (by omega) _ _ _ _ x, ?_⟩
  refine List.forall_mem_cons.2 ⟨fun x => wpiece (rows := 128) arg1 harg1 arg3 harg3 x0 x2 6 10 (by omega) (by omega) (by omega) _ _ _ _ x, ?_⟩
  refine List.forall_mem_cons.2 ⟨fun x => wpiece (rows := 128) arg1 harg1 arg3 harg3 x0 x2 6 9 (by omega) (by omega) (by omega) _ _ _ _ x, ?_⟩
  refine List.forall_mem_cons.2 ⟨fun x => wpiece (rows := 128) arg1 harg1 arg3 harg3 x0 x2 6 8 (by omega) (by omega) (by omega) _ _ _ _ x, ?_⟩
  refine List.forall_mem_cons.2 ⟨fun x => wpiece (rows := 128) arg1 harg1 arg3 harg3 x0 x2 6 7 (by omega) (by omega) (by omega) _ _ _ _ x, ?_⟩
  refine List.forall_mem_cons.2 ⟨fun x => wpiece (rows := 128) arg1 harg1 arg3 harg3 x0 x2 6 6 (by omega) (by omega) (by omega) _ _ _ _ x, ?_⟩
  refine List.forall_mem_cons.2 ⟨fun x => wpiece (rows := 128) arg1 harg1 arg3 harg3 x0 x2 6 5 (by omega) (by omega) (by omega) _ _ _ _ x, ?_⟩
  refine List.forall_mem_cons.2 ⟨fun x => wpiece (rows := 128) arg1 harg1 arg3 harg3 x0 x2 6 4 (by omega) (by omega) (by omega) _ _ _ _ x, ?_⟩
  refine List.forall_mem_cons.2 ⟨fun x => wpiece (rows := 128) arg1 harg1 arg3 harg3 x0 x2 6 3 (by omega) (by omega) (by omega) _ _ _ _ x, ?_⟩
  refine List.forall_mem_cons.2 ⟨fun x => wpiece (rows := 128) arg1 harg1 arg3 harg3 x0 x2 6 2 (by omega) (by omega) (by omega) _ _ _ _ x, ?_⟩
  refine List.forall_mem_cons.2 ⟨fun x => wpiece (rows := 128) arg1 harg1 arg3 harg3 x0 x2 6 1 (by omega) (by omega) (by omega) _ _ _ _ x, ?_⟩
  refine List.forall_mem_cons.2 ⟨fun x => wpiece (rows := 128) arg1 harg1 arg3 harg3 x0 x2 6 0 (by omega) (by omega) (by omega) _ _ _ _ x, ?_⟩
  refine List.forall_mem_cons.2 ⟨fun x => wpiece (rows := 128) arg1 harg1 arg3 harg3 x0 x2 5 19 (by omega) (by omega) (by omega) _ _ _ _ x, ?_⟩
  refine List.forall_mem_cons.2 ⟨fun x => wpiece (rows := 128) arg1 harg1 arg3 harg3 x0 x2 5 18 (by omega) (by omega) (by omega) _ _ _ _ x, ?_⟩
  refine List.forall_mem_cons.2 ⟨fun x => wpiece (rows := 128) arg1 harg1 arg3 harg3 x0 x2 5 17 (by omega) (by omega) (by omega) _ _ _ _ x, ?_⟩
  refine List.forall_mem_cons.2 ⟨fun x => wpiece (rows := 128) arg1 harg1 arg3 harg3 x0 x2 5 16 (by omega) (by omega) (by omega) _ _ _ _ x, ?_⟩
  refine List.forall_mem_cons.2 ⟨fun x => wpiece (rows := 128) arg1 harg1 arg3 harg3 x0 x2 5 15 (by omega) (by omega) (by omega) _ _ _ _ x, ?_⟩
  refine List.forall_mem_cons.2 ⟨fun x => wpiece (rows := 128) arg1 harg1 arg3 harg3 x0 x2 5 14 (by omega) (by omega) (by omega) _ _ _ _ x, ?_⟩
  refine List.forall_mem_cons.2 ⟨fun x => wpiece (rows := 128) arg1 harg1 arg3 harg3 x0 x2 5 13 (by omega) (by omega) (by omega) _ _ _ _ x, ?_⟩
  refine List.forall_mem_cons.2 ⟨fun x => wpiece (rows := 128) arg1 harg1 arg3 harg3 x0 x2 5 12 (by omega) (by omega) (by omega) _ _ _ _ x, ?_⟩
  refine List.forall_mem_cons.2 ⟨fun x => wpiece (rows := 128) arg1 harg1 arg3 harg3 x0 x2 5 11 (by omega) (by omega) (by omega) _ _ _ _ x, ?_⟩
  refine List.forall_mem_cons.2 ⟨fun x => wpiece (rows := 128) arg1 harg1 arg3 harg3 x0 x2 5 10 (by omega) (by omega) (by omega) _ _ _ _ x, ?_⟩
  refine List.forall_mem_cons.2 ⟨fun x => wpiece (rows := 128) arg1 harg1 arg3 harg3 x0 x2 5 9 (by omega) (by omega) (by omega) _ _ _ _ x, ?_⟩
  refine List.forall_mem_cons.2 ⟨fun x => wpiece (rows := 128) arg1 harg1 arg3 harg3 x0 x2 5 8 (by omega) (by omega) (by omega) _ _ _ _ x, ?_⟩
  refine List.forall_mem_cons.2 ⟨fun x => wpiece (rows := 128) arg1 harg1 arg3 harg3 x0 x2 5 7 (by omega) (by omega) (by omega) _ _ _ _ x, ?_⟩
  refine List.forall_mem_cons.2 ⟨fun x => wpiece (rows := 128) arg1 harg1 arg3 harg3 x0 x2 5 6 (by omega) (by omega) (by omega) _ _ _ _ x, ?_⟩
  refine List.forall_mem_cons.2 ⟨fun x => wpiece (rows := 128) arg1 harg1 arg3 harg3 x0 x2 5 5 (by omega) (by omega) (by omega) _ _ _ _ x, ?_⟩
  refine List.forall_mem_cons.2 ⟨fun x => wpiece (rows := 128) arg1 harg1 arg3 harg3 x0 x2 5 4 (by omega) (by omega) (by omega) _ _ _ _ x, ?_⟩
  refine List.forall_mem_cons.2 ⟨fun x => wpiece (rows := 128) arg1 harg1 arg3 harg3 x0 x2 5 3 (by omega) (by omega) (by omega) _ _ _ _ x, ?_⟩
  refine List.forall_mem_cons.2 ⟨fun x => wpiece (rows := 128) arg1 harg1 arg3 harg3 x0 x2 5 2 (by omega) (by omega) (by omega) _ _ _ _ x, ?_⟩
  refine List.forall_mem_cons.2 ⟨fun x => wpiece (rows := 128) arg1 harg1 arg3 harg3 x0 x2 5 1 (by omega) (by omega) (by omega) _ _ _ _ x, ?_⟩
  refine List.forall_mem_cons.2 ⟨fun x => wpiece (rows := 128) arg1 harg1 arg3 harg3 x0 x2 5 0 (by omega) (by omega) (by omega) _ _ _ _ x, ?_⟩
  refine List.forall_mem_cons.2 ⟨fun x => wpiece (rows := 128) arg1 harg1 arg3 harg3 x0 x2 4 19 (by omega) (by omega) (by omega) _ _ _ _ x, ?_⟩
  refine List.forall_mem_cons.2 ⟨fun x => wpiece (rows := 128) arg1 harg1 arg3 harg3 x0 x2 4 18 (by omega) (by omega) (by omega) _ _ _ _ x, ?_⟩
  refine List.forall_mem_cons.2 ⟨fun x => wpiece (rows := 128) arg1 harg1 arg3 harg3 x0 x2 4 17 (by omega) (by omega) (by omega) _ _ _ _ x, ?_⟩
  refine List.forall_mem_cons.2 ⟨fun x => wpiece (rows := 128) arg1 harg1 arg3 harg3 x0 x2 4 16 (by omega) (by omega) (by omega) _ _ _ _ x, ?_⟩
  refine List.forall_mem_cons.2 ⟨fun x => wpiece (rows := 128) arg1 harg1 arg3 harg3 x0 x2 4 15 (by omega) (by omega) (by omega) _ _ _ _ x, ?_⟩
  refine List.forall_mem_cons.2 ⟨fun x => wpiece (rows := 128) arg1 harg1 arg3 harg3 x0 x2 4 14 (by omega) (by omega) (by omega) _ _ _ _ x, ?_⟩
  refine List.forall_mem_cons.2 ⟨fun x => wpiece (rows := 128) arg1 harg1 arg3 harg3 x0 x2 4 13 (by omega) (by omega) (by omega) _ _ _ _ x, ?_⟩
  refine List.forall_mem_cons.2 ⟨fun x => wpiece (rows := 128) arg1 harg1 arg3 harg3 x0 x2 4 12 (by omega) (by omega) (by omega) _ _ _ _ x, ?_⟩
  refine List.forall_mem_cons.2 ⟨fun x => wpiece (rows := 128) arg1 harg1 arg3 harg3 x0 x2 4 11 (by omega) (by omega) (by omega) _ _ _ _ x, ?_⟩
  refine List.forall_mem_cons.2 ⟨fun x => wpiece (rows := 128) arg1 harg1 arg3 harg3 x0 x2 4 10 (by omega) (by omega) (by omega) _ _ _ _ x, ?_⟩
  refine List.forall_mem_cons.2 ⟨fun x => wpiece (rows := 128) arg1 harg1 arg3 harg3 x0 x2 4 9 (by omega) (by omega) (by omega) _ _ _ _ x, ?_⟩
  refine List.forall_mem_cons.2 ⟨fun x => wpiece (rows := 128) arg1 harg1 arg3 harg3 x0 x2 4 8 (by omega) (by omega) (by omega) _ _ _ _ x, ?_⟩
  refine List.forall_mem_cons.2 ⟨fun x => wpiece (rows := 128) arg1 harg1 arg3 harg3 x0 x2 4 7 (by omega) (by omega) (by omega) _ _ _ _ x, ?_⟩
  refine List.forall_mem_cons.2 ⟨fun x => wpiece (rows := 128) arg1 harg1 arg3 harg3 x0 x2 4 6 (by omega) (by omega) (by omega) _ _ _ _ x, ?_⟩
  refine List.forall_mem_cons.2 ⟨fun x => wpiece (rows := 128) arg1 harg1 arg3 harg3 x0 x2 4 5 (by omega) (by omega) (by omega) _ _ _ _ x, ?_⟩
  refine List.forall_mem_cons.2 ⟨fun x => wpiece (rows := 128) arg1 harg1 arg3 harg3 x0 x2 4 4 (by omega) (by omega) (by omega) _ _ _ _ x, ?_⟩
  refine List.forall_mem_cons.2 ⟨fun x => wpiece (rows := 128) arg1 harg1 arg3 harg3 x0 x2 4 3 (by omega) (by omega) (by omega) _ _ _ _ x, ?_⟩
  refine List.forall_mem_cons.2 ⟨fun x => wpiece (rows := 128) arg1 harg1 arg3 harg3 x0 x2 4 2 (by omega) (by omega) (by omega) _ _ _ _ x, ?_⟩
  refine List.forall_mem_cons.2 ⟨fun x => wpiece (rows := 128) arg1 harg1 arg3 harg3 x0 x2 4 1 (by omega) (by omega) (by omega) _ _ _ _ x, ?_⟩
  refine List.forall_mem_cons.2 ⟨fun x => wpiece (rows := 128) arg1 harg1 arg3 harg3 x0 x2 4 0 (by omega) (by omega) (by omega) _ _ _ _ x, ?_⟩
  refine List.forall_mem_cons.2 ⟨fun x => wpiece (rows := 128) arg1 harg1 arg3 harg3 x0 x2 3 19 (by omega) (by omega) (by omega) _ _ _ _ x, ?_⟩
  refine List.forall_mem_cons.2 ⟨fun x => wpiece (rows := 128) arg1 harg1 arg3 harg3 x0 x2 3 18 (by omega) (by omega) (by omega) _ _ _ _ x, ?_⟩
  refine List.forall_mem_cons.2 ⟨fun x => wpiece (rows := 128) arg1 harg1 arg3 harg3 x0 x2 3 17 (by omega) (by omega) (by omega) _ _ _ _ x, ?_⟩
  refine List.forall_mem_cons.2 ⟨fun x => wpiece (rows := 128) arg1 harg1 arg3 harg3 x0 x2 3 16 (by omega) (by omega) (by omega) _ _ _ _ x, ?_⟩
  refine List.forall_mem_cons.2 ⟨fun x => wpiece (rows := 128) arg1 harg1 arg3 harg3 x0 x2 3 15 (by omega) (by omega) (by omega) _ _ _ _ x, ?_⟩
  refine List.forall_mem_cons.2 ⟨fun x => wpiece (rows := 128) arg1 harg1 arg3 harg3 x0 x2 3 14 (by omega) (by omega) (by omega) _ _ _ _ x, ?_⟩
  refine List.forall_mem_cons.2 ⟨fun x => wpiece (rows := 128) arg1 harg1 arg3 harg3 x0 x2 3 13 (by omega) (by omega) (by omega) _ _ _ _ x, ?_⟩
  refine List.forall_mem_cons.2 ⟨fun x => wpiece (rows := 128) arg1 harg1 arg3 harg3 x0 x2 3 12 (by omega) (by omega) (by omega) _ _ _ _ x, ?_⟩
  refine List.forall_mem_cons.2 ⟨fun x => wpiece (rows := 128) arg1 harg1 arg3 harg3 x0 x2 3 11 (by omega) (by omega) (by omega) _ _ _ _ x, ?_⟩
  refine List.forall_mem_cons.2 ⟨fun x => wpiece (rows := 128) arg1 harg1 arg3 harg3 x0 x2 3 10 (by omega) (by omega) (by omega) _ _ _ _ x, ?_⟩
  refine List.forall_mem_cons.2 ⟨fun x => wpiece (rows := 128) arg1 harg1 arg3 harg3 x0 x2 3 9 (by omega) (by omega) (by omega) _ _ _ _ x, ?_⟩
  refine List.forall_mem_cons.2 ⟨fun x => wpiece (rows := 128) arg1 harg1 arg3 harg3 x0 x2 3 8 (by omega) (by omega) (by omega) _ _ _ _ x, ?_⟩
  refine List.forall_mem_cons.2 ⟨fun x => wpiece (rows := 128) arg1 harg1 arg3 harg3 x0 x2 3 7 (by omega) (by omega) (by omega) _ _ _ _ x, ?_⟩
  refine List.forall_mem_cons.2 ⟨fun x => wpiece (rows := 128) arg1 harg1 arg3 harg3 x0 x2 3 6 (by omega) (by omega) (by omega) _ _ _ _ x, ?_⟩
  refine List.forall_mem_cons.2 ⟨fun x => wpiece (rows := 128) arg1 harg1 arg3 harg3 x0 x2 3 5 (by omega) (by omega) (by omega) _ _ _ _ x, ?_⟩
  refine List.forall_mem_cons.2 ⟨fun x => wpiece (rows := 128) arg1 harg1 arg3 harg3 x0 x2 3 4 (by omega) (by omega) (by omega) _ _ _ _ x, ?_⟩
  refine List.forall_mem_cons.2 ⟨fun x => wpiece (rows := 128) arg1 harg1 arg3 harg3 x0 x2 3 3 (by omega) (by omega) (by omega) _ _ _ _ x, ?_⟩
  refine List.forall_mem_cons.2 ⟨fun x => wpiece (rows := 128) arg1 harg1 arg3 harg3 x0 x2 3 2 (by omega) (by omega) (by omega) _ _ _ _ x, ?_⟩
  refine List.forall_mem_cons.2 ⟨fun x => wpiece (rows := 128) arg1 harg1 arg3 harg3 x0 x2 3 1 (by omega) (by omega) (by omega) _ _ _ _ x, ?_⟩
  refine List.forall_mem_cons.2 ⟨fun x => wpiece (rows := 128) arg1 harg1 arg3 harg3 x0 x2 3 0 (by omega) (by omega) (by omega) _ _ _ _ x, ?_⟩
  refine List.forall_mem_cons.2 ⟨fun x => wpiece (rows := 128) arg1 harg1 arg3 harg3 x0 x2 2 19 (by omega) (by omega) (by omega) _ _ _ _ x, ?_⟩
  refine List.forall_mem_cons.2 ⟨fun x => wpiece (rows := 128) arg1 harg1 arg3 harg3 x0 x2 2 18 (by omega) (by omega) (by omega) _ _ _ _ x, ?_⟩
  refine List.forall_mem_cons.2 ⟨fun x => wpiece (rows := 128) arg1 harg1 arg3 harg3 x0 x2 2 17 (by omega) (by omega) (by omega) _ _ _ _ x, ?_⟩
  refine List.forall_mem_cons.2 ⟨fun x => wpiece (rows := 128) arg1 harg1 arg3 harg3 x0 x2 2 16 (by omega) (by omega) (by omega) _ _ _ _ x, ?_⟩
  refine List.forall_mem_cons.2 ⟨fun x => wpiece (rows := 128) arg1 harg1 arg3 harg3 x0 x2 2 15 (by omega) (by omega) (by omega) _ _ _ _ x, ?_⟩
  refine List.forall_mem_cons.2 ⟨fun x => wpiece (rows := 128) arg1 harg1 arg3 harg3 x0 x2 2 14 (by omega) (by omega) (by omega) _ _ _ _ x, ?_⟩
  refine List.forall_mem_cons.2 ⟨fun x => wpiece (rows := 128) arg1 harg1 arg3 harg3 x0 x2 2 13 (by omega) (by omega) (by omega) _ _ _ _ x, ?_⟩
  refine List.forall_mem_cons.2 ⟨fun x => wpiece (rows := 128) arg1 harg1 arg3 harg3 x0 x2 2 12 (by omega) (by omega) (by omega) _ _ _ _ x, ?_⟩
  refine List.forall_mem_cons.2 ⟨fun x => wpiece (rows := 128) arg1 harg1 arg3 harg3 x0 x2 2 11 (by omega) (by omega) (by omega) _ _ _ _ x, ?_⟩
  refine List.forall_mem_cons.2 ⟨fun x => wpiece (rows := 128) arg1 harg1 arg3 harg3 x0 x2 2 10 (by omega) (by omega) (by omega) _ _ _ _ x, ?_⟩
  refine List.forall_mem_cons.2 ⟨fun x => wpiece (rows := 128) arg1 harg1 arg3 harg3 x0 x2 2 9 (by omega) (by omega) (by omega) _ _ _ _ x, ?_⟩
  refine List.forall_mem_cons.2 ⟨fun x => wpiece (rows := 128) arg1 harg1 arg3 harg3 x0 x2 2 8 (by omega) (by omega) (by omega) _ _ _ _ x, ?_⟩
  refine List.forall_mem_cons.2 ⟨fun x => wpiece (rows := 128) arg1 harg1 arg3 harg3 x0 x2 2 7 (by omega) (by omega) (by omega) _ _ _ _ x, ?_⟩
  refine List.forall_mem_cons.2 ⟨fun x => wpiece (rows := 128) arg1 harg1 arg3 harg3 x0 x2 2 6 (by omega) (by omega) (by omega) _ _ _ _ x, ?_⟩
  refine List.forall_mem_cons.2 ⟨fun x => wpiece (rows := 128) arg1 harg1 arg3 harg3 x0 x2 2 5 (by omega) (by omega) (by omega) _ _ _ _ x, ?_⟩
  refine List.forall_mem_cons.2 ⟨fun x => wpiece (rows := 128) arg1 harg1 arg3 harg3 x0 x2 2 4 (by omega) (by omega) (by omega) _ _ _ _ x, ?_⟩
  refine List.forall_mem_cons.2 ⟨fun x => wpiece (rows := 128) arg1 harg1 arg3 harg3 x0 x2 2 3 (by omega) (by omega) (by omega) _ _ _ _ x, ?_⟩
  refine List.forall_mem_cons.2 ⟨fun x => wpiece (rows := 128) arg1 harg1 arg3 harg3 x0 x2 2 2 (by omega) (by omega) (by omega) _ _ _ _ x, ?_⟩
  refine List.forall_mem_cons.2 ⟨fun x => wpiece (rows := 128) arg1 harg1 arg3 harg3 x0 x2 2 1 (by omega) (by omega) (by omega) _ _ _ _ x, ?_⟩
  refine List.forall_mem_cons.2 ⟨fun x => wpiece (rows := 128) arg1 harg1 arg3 harg3 x0 x2 2 0 (by omega) (by omega) (by omega) _ _ _ _ x, ?_⟩
  refine List.forall_mem_cons.2 ⟨fun x => wpiece (rows := 128) arg1 harg1 arg3 harg3 x0 x2 1 19 (by omega) (by omega) (by omega) _ _ _ _ x, ?_⟩
  refine List.forall_mem_cons.2 ⟨fun x => wpiece (rows := 128) arg1 harg1 arg3 harg3 x0 x2 1 18 (by omega) (by omega) (by omega) _ _ _ _ x, ?_⟩
  refine List.forall_mem_cons.2 ⟨fun x => wpiece (rows := 128) arg1 harg1 arg3 harg3 x0 x2 1 17 (by omega) (by omega) (by omega) _ _ _ _ x, ?_⟩
  refine List.forall_mem_cons.2 ⟨fun x => wpiece (rows := 128) arg1 harg1 arg3 harg3 x0 x2 1 16 (by omega) (by omega) (by omega) _ _ _ _ x, ?_⟩
  refine List.forall_mem_cons.2 ⟨fun x => wpiece (rows := 128) arg1 harg1 arg3 harg3 x0 x2 1 15 (by omega) (by omega) (by omega) _ _ _ _ x, ?_⟩
  refine List.forall_mem_cons.2 ⟨fun x => wpiece (rows := 128) arg1 harg1 arg3 harg3 x0 x2 1 14 (by omega) (by omega) (by omega) _ _ _ _ x, ?_⟩
  refine List.forall_mem_cons.2 ⟨fun x => wpiece (rows := 128) arg1 harg1 arg3 harg3 x0 x2 1 13 (by omega) (by omega) (by omega) _ _ _ _ x, ?_⟩
  refine List.forall_mem_cons.2 ⟨fun x => wpiece (rows := 128) arg1 harg1 arg3 harg3 x0 x2 1 12 (by omega) (by omega) (by omega) _ _ _ _ x, ?_⟩
  refine List.forall_mem_cons.2 ⟨fun x => wpiece (rows := 128) arg1 harg1 arg3 harg3 x0 x2 1 11 (by omega) (by omega) (by omega) _ _ _ _ x, ?_⟩
  refine List.forall_mem_cons.2 ⟨fun x => wpiece (rows := 128) arg1 harg1 arg3 harg3 x0 x2 1 10 (by omega) (by omega) (by omega) _ _ _ _ x, ?_⟩
  refine List.forall_mem_cons.2 ⟨fun x => wpiece (rows := 128) arg1 harg1 arg3 harg3 x0 x2 1 9 (by omega) (by omega) (by omega) _ _ _ _ x, ?_⟩
  refine List.forall_mem_cons.2 ⟨fun x => wpiece (rows := 128) arg1 harg1 arg3 harg3 x0 x2 1 8 (by omega) (by omega) (by omega) _ _ _ _ x, ?_⟩
  refine List.forall_mem_cons.2 ⟨fun x => wpiece (rows := 128) arg1 harg1 arg3 harg3 x0 x2 1 7 (by omega) (by omega) (by omega) _ _ _ _ x, ?_⟩
  refine List.forall_mem_cons.2 ⟨fun x => wpiece (rows := 128) arg1 harg1 arg3 harg3 x0 x2 1 6 (by omega) (by omega) (by omega) _ _ _ _ x, ?_⟩
  refine List.forall_mem_cons.2 ⟨fun x => wpiece (rows := 128) arg1 harg1 arg3 harg3 x0 x2 1 5 (by omega) (by omega) (by omega) _ _ _ _ x, ?_⟩
  refine List.forall_mem_cons.2 ⟨fun x => wpiece (rows := 128) arg1 harg1 arg3 harg3 x0 x2 1 4 (by omega) (by omega) (by omega) _ _ _ _ x, ?_⟩
  refine List.forall_mem_cons.2 ⟨fun x => wpiece (rows := 128) arg1 harg1 arg3 harg3 x0 x2 1 3 (by omega) (by omega) (by omega) _ _ _ _ x, ?_⟩
  refine List.forall_mem_cons.2 ⟨fun x => wpiece (rows := 128) arg1 harg1 arg3 harg3 x0 x2 1 2 (by omega) (by omega) (by omega) _ _ _ _ x, ?_⟩
  refine List.forall_mem_cons.2 ⟨fun x => wpiece (rows := 128) arg1 harg1 arg3 harg3 x0 x2 1 1 (by omega) (by omega) (by omega) _ _ _ _ x, ?_⟩
  refine List.forall_mem_cons.2 ⟨fun x => wpiece (rows := 128) arg1 harg1 arg3 harg3 x0 x2 1 0 (by omega) (by omega) (by omega) _ _ _ _ x, ?_⟩
  refine List.forall_mem_cons.2 ⟨fun x => wpiece (rows := 128) arg1 harg1 arg3 harg3 x0 x2 0 19 (by omega) (by omega) (by omega) _ _ _ _ x, ?_⟩
  refine List.forall_mem_cons.2 ⟨fun x => wpiece (rows := 128) arg1 harg1 arg3 harg3 x0 x2 0 18 (by omega) (by omega) (by omega) _ _ _ _ x, ?_⟩
  refine List.forall_mem_cons.2 ⟨fun x => wpiece (rows := 128) arg1 harg1 arg3 harg3 x0 x2 0 17 (by omega) (by omega) (by omega) _ _ _ _ x, ?_⟩
  refine List.forall_mem_cons.2 ⟨fun x => wpiece (rows := 128) arg1 harg1 arg3 harg3 x0 x2 0 16 (by omega) (by omega) (by omega) _ _ _ _ x, ?_⟩
  refine List.forall_mem_cons.2 ⟨fun x => wpiece (rows := 128) arg1 harg1 arg3 harg3 x0 x2 0 15 (by omega) (by omega) (by omega) _ _ _ _ x, ?_⟩
  refine List.forall_mem_cons.2 ⟨fun x => wpiece (rows := 128) arg1 harg1 arg3 harg3 x0 x2 0 14 (by omega) (by omega) (by omega) _ _ _ _ x, ?_⟩
  refine List.forall_mem_cons.2 ⟨fun x => wpiece (rows := 128) arg1 harg1 arg3 harg3 x0 x2 0 13 (by omega) (by omega) (by omega) _ _ _ _ x, ?_⟩
  refine List.forall_mem_cons.2 ⟨fun x => wpiece (rows := 128) arg1 harg1 arg3 harg3 x0 x2 0 12 (by omega) (by omega) (by omega) _ _ _ _ x, ?_⟩
  refine List.forall_mem_cons.2 ⟨fun x => wpiece (rows := 128) arg1 harg1 arg3 harg3 x0 x2 0 11 (by omega) (by omega) (by omega) _ _ _ _ x, ?_⟩
  refine List.forall_mem_cons.2 ⟨fun x => wpiece (rows := 128) arg1 harg1 arg3 harg3 x0 x2 0 10 (by omega) (by omega) (by omega) _ _ _ _ x, ?_⟩
  refine List.forall_mem_cons.2 ⟨fun x => wpiece (rows := 128) arg1 harg1 arg3 harg3 x0 x2 0 9 (by omega) (by omega) (by omega) _ _ _ _ x, ?_⟩
  refine List.forall_mem_cons.2 ⟨fun x => wpiece (rows := 128) arg1 harg1 arg3 harg3 x0 x2 0 8 (by omega) (by omega) (by omega) _ _ _ _ x, ?_⟩
  refine List.forall_mem_cons.2 ⟨fun x => wpiece (rows := 128) arg1 harg1 arg3 harg3 x0 x2 0 7 (by omega) (by omega) (by omega) _ _ _ _ x, ?_⟩
  refine List.forall_mem_cons.2 ⟨fun x => wpiece (rows := 128) arg1 harg1 arg3 harg3 x0 x2 0 6 (by omega) (by omega) (by omega) _ _ _ _ x, ?_⟩
  refine List.forall_mem_cons.2 ⟨fun x => wpiece (rows := 128) arg1 harg1 arg3 harg3 x0 x2 0 5 (by omega) (by omega) (by omega) _ _ _ _ x, ?_⟩
  refine List.forall_mem_cons.2 ⟨fun x => wpiece (rows := 128) arg1 harg1 arg3 harg3 x0 x2 0 4 (by omega) (by omega) (by omega) _ _ _ _ x, ?_⟩
  refine List.forall_mem_cons.2 ⟨fun x => wpiece (rows := 128) arg1 harg1 arg3 harg3 x0 x2 0 3 (by omega) (by omega) (by omega) _ _ _ _ x, ?_⟩
  refine List.forall_mem_cons.2 ⟨fun x => wpiece (rows := 128) arg1 harg1 arg3 harg3 x0 x2 0 2 (by omega) (by omega) (by omega) _ _ _ _ x, ?_⟩
  refine List.forall_mem_cons.2 ⟨fun x => wpiece (rows := 128) arg1 harg1 arg3 harg3 x0 x2 0 1 (by omega) (by omega) (by omega) _ _ _ _ x, ?_⟩
  refine List.forall_mem_cons.2 ⟨fun x => wpiece (rows := 128) arg1 harg1 arg3 harg3 x0 x2 0 0 (by omega) (by omega) (by omega) _ _ _ _ x, ?_⟩
  exact fun p hp => nomatch hp

end Cert.KernelIdeal.Block

end
-- ==== Proof.BlockOuts.lean ====
/- What each of the two cases of the body leaves in every output block, over the dequantised activations and weights. -/
module

public import proofs.«01_k».proof.Proof.BlockCodes
public import proofs.«01_k».proof.Proof.BlockWeights

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx

variable {F : FTy → Type} [FloatOps F]

theorem hz : (![0, 0] : Fin 2 → Nat) = fun _ => 0 := funext fun a => by fin_cases a <;> rfl

/-- The normalised query part of the product. -/
def qB (xa : Vec F S256x2560 .bf16) (wa : Vec F S1056x2560 .bf16) (gq : Vec F S1x768 .f32) : Vec F S256x768 .bf16 := k0_pay372 xa wa gq

/-- The normalised key and value part of the product. -/
def kvB (xa : Vec F S256x2560 .bf16) (wa : Vec F S1056x2560 .bf16) (gkv : Vec F S1x256 .f32) : Vec F S256x256 .bf16 :=
  k0_pay1 (k0_pay371 xa wa) (k0_pay373 xa wa) k0_pay374 gkv

/-- The rotary part of the product. -/
def peB (xa : Vec F S256x2560 .bf16) (wa : Vec F S1056x2560 .bf16) : Vec F S256x32 .bf16 := k0_pay2 (k0_pay370 xa wa)

/-- A load of a whole array after stores that cover it reads their one function. -/
theorem readCov_whole {S : Shape} {e : EltTy} {κ : Kind} {sp : Space} (v : View sig κ sp S e) {off : Fin S.rank → ℕ} (h : off = fun _ => 0)
    (inb : ∀ a, off a + S.size a ≤ S.size a) (L : List (View.Piece (Elt F) S e)) (hcov : ∀ y : S.Idx, ∃ p ∈ L, y ∈ p.1.set) :
    v.readCov L (Rect.unit off S.size inb).toLoadRect = View.canon L := by
  subst h
  rw [View.readCov_eq_canon v L _ (fun j => hcov _)]
  funext j
  refine congrArg (View.canon L) (funext fun a => Fin.ext ?_)
  show 0 + 1 * (j a).val = (j a).val; omega

theorem xaRead_A (c : Dev nD) (arg2 : Memref sig .tc .vmem S256x2560 .bf16) (harg2 : arg2.IsWhole) (arg12 : Memref sig .tc .vmem S256x2560 .bf16) (x1 : Vec F S256x2560 .bf16) :
    kernelRun0_A.sl.v1106 c arg2 harg2 arg12 x1 = grpB xat x1 := by
  unfold kernelRun0_A.sl.v1106
  rw [readCov_whole arg12.view hz _ _ (fun y => View.cover_of_tiledL (kernelRun0_A.sl.HS1_20 c arg2 harg2 x1) ![256, 128] (by sl_kernel_rfl) y), xa_A]

theorem waRead_A (c : Dev nD) (arg1 : Memref sig .tc .smem S9x20 .f32) (harg1 : arg1.IsWhole) (arg3 : Memref sig .tc .vmem S1056x2560 .fp8e4m3) (harg3 : arg3.IsWhole)
    (arg11 : Memref sig .tc .vmem S1056x2560 .bf16) (x0 : Vec F S9x20 .f32) (x2 : Vec F S1056x2560 .fp8e4m3) :
    kernelRun0_A.sl.v1107 c arg1 harg1 arg3 harg3 arg11 x0 x2 = waB x0 x2 := by
  unfold kernelRun0_A.sl.v1107
  rw [readCov_whole arg11.view hz _ _ (fun y => View.cover_of_tiledBy (kernelRun0_A.sl.HS0_180 c arg1 harg1 arg3 harg3 x0 x2) ![32, 128] (by sl_kernel_rfl) y), wa_A]

theorem sout_A (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : cond0_0 i)
    (x0 : Vec F S9x20 .f32) (x1 : Vec F S256x2560 .bf16) (x2 : Vec F S1056x2560 .fp8e4m3) (x3 : Vec F S1x768 .f32) (x4 : Vec F S1x256 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 = waB x0 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4)]
  exact wa_A c arg1 harg1 arg3 harg3 x0 x2

theorem out5_A (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : cond0_0 i)
    (x0 : Vec F S9x20 .f32) (x1 : Vec F S256x2560 .bf16) (x2 : Vec F S1056x2560 .fp8e4m3) (x3 : Vec F S1x768 .f32) (x4 : Vec F S1x256 .f32) :
    out0_A_5 c i arg1 harg1 arg2 harg2 arg3 harg3 arg4 harg4 arg5 harg5 arg6 harg6 arg7 harg7 arg8 harg8 arg9 harg9 arg10 harg10 arg11 harg11 arg12 harg12 hc0 x0 x1 x2 x3 x4 = qB (grpB xat x1) (waB x0 x2) x3 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  rw [View.canon_unit_zero hz]
  show qB (kernelRun0_A.sl.v1106 c arg2 harg2 arg12 x1) (kernelRun0_A.sl.v1107 c arg1 harg1 arg3 harg3 arg11 x0 x2) (View.readAt (Elt F) arg4.view (Rect.unit ![0, 0] S1x768.size inb_S1x768_S1x768_0_0).toLoadRect (harg4.unread x3)) = _
  rw [xaRead_A, waRead_A, View.readAt_eq_ld, harg4.read_unread, View.ld_unit_zero hz]

theorem out6_A (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : cond0_0 i)
    (x0 : Vec F S9x20 .f32) (x1 : Vec F S256x2560 .bf16) (x2 : Vec F S1056x2560 .fp8e4m3) (x3 : Vec F S1x768 .f32) (x4 : Vec F S1x256 .f32) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 = kvB (grpB xat x1) (waB x0 x2) x4 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  rw [View.canon_unit_zero hz]
  show kvB (kernelRun0_A.sl.v1106 c arg2 harg2 arg12 x1) (kernelRun0_A.sl.v1107 c arg1 harg1 arg3 harg3 arg11 x0 x2) (View.readAt (Elt F) arg5.view (Rect.unit ![0, 0] S1x256.size inb_S1x256_S1x256_0_0).toLoadRect (harg5.unread x4)) = _
  rw [xaRead_A, waRead_A, View.readAt_eq_ld, harg5.read_unread, View.ld_unit_zero hz]

theorem out7_A (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : cond0_0 i)
    (x0 : Vec F S9x20 .f32) (x1 : Vec F S256x2560 .bf16) (x2 : Vec F S1056x2560 .fp8e4m3) (x3 : Vec F S1x768 .f32) (x4 : Vec F S1x256 .f32) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 = peB (grpB xat x1) (waB x0 x2) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  rw [View.canon_unit_zero hz]
  show peB (kernelRun0_A.sl.v1106 c arg2 harg2 arg12 x1) (kernelRun0_A.sl.v1107 c arg1 harg1 arg3 harg3 arg11 x0 x2) = _
  rw [xaRead_A, waRead_A]

theorem xaRead_B (c : Dev nD) (arg2 : Memref sig .tc .vmem S256x2560 .bf16) (harg2 : arg2.IsWhole) (arg12 : Memref sig .tc .vmem S256x2560 .bf16) (x1 : Vec F S256x2560 .bf16) :
    kernelRun0_B.sl.v1106 c arg2 harg2 arg12 x1 = grpB xat x1 := by
  unfold kernelRun0_B.sl.v1106
  rw [readCov_whole arg12.view hz _ _ (fun y => View.cover_of_tiledL (kernelRun0_B.sl.HS1_20 c arg2 harg2 x1) ![256, 128] (by sl_kernel_rfl) y), xa_B]

theorem waRead_B (c : Dev nD) (arg11 : Memref sig .tc .vmem S1056x2560 .bf16) (harg11 : arg11.IsWhole) (xs0 : Vec F S1056x2560 .bf16) :
    kernelRun0_B.sl.r_69 c arg11 harg11 xs0 = xs0 := by
  unfold kernelRun0_B.sl.r_69
  rw [View.readAt_eq_ld, harg11.read_unread, View.ld_unit_zero hz]

theorem out5_B (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : ¬cond0_0 i)
    (x0 : Vec F S9x20 .f32) (x1 : Vec F S256x2560 .bf16) (x2 : Vec F S1056x2560 .fp8e4m3) (x3 : Vec F S1x768 .f32) (x4 : Vec F S1x256 .f32) (xs0 : Vec F S1056x2560 .bf16) :
    out0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0 = qB (grpB xat x1) xs0 x3 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  rw [View.canon_unit_zero hz]
  show qB (kernelRun0_B.sl.v1106 c arg2 harg2 arg12 x1) (kernelRun0_B.sl.r_69 c arg11 harg11 xs0) (View.readAt (Elt F) arg4.view (Rect.unit ![0, 0] S1x768.size inb_S1x768_S1x768_0_0).toLoadRect (harg4.unread x3)) = _
  rw [xaRead_B, waRead_B, View.readAt_eq_ld, harg4.read_unread, View.ld_unit_zero hz]

theorem out6_B (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : ¬cond0_0 i)
    (x0 : Vec F S9x20 .f32) (x1 : Vec F S256x2560 .bf16) (x2 : Vec F S1056x2560 .fp8e4m3) (x3 : Vec F S1x768 .f32) (x4 : Vec F S1x256 .f32) (xs0 : Vec F S1056x2560 .bf16) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0 = kvB (grpB xat x1) xs0 x4 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  rw [View.canon_unit_zero hz]
  show kvB (kernelRun0_B.sl.v1106 c arg2 harg2 arg12 x1) (kernelRun0_B.sl.r_69 c arg11 harg11 xs0) (View.readAt (Elt F) arg5.view (Rect.unit ![0, 0] S1x256.size inb_S1x256_S1x256_0_0).toLoadRect (harg5.unread x4)) = _
  rw [xaRead_B, waRead_B, View.readAt_eq_ld, harg5.read_unread, View.ld_unit_zero hz]

theorem out7_B (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : ¬cond0_0 i)
    (x0 : Vec F S9x20 .f32) (x1 : Vec F S256x2560 .bf16) (x2 : Vec F S1056x2560 .fp8e4m3) (x3 : Vec F S1x768 .f32) (x4 : Vec F S1x256 .f32) (xs0 : Vec F S1056x2560 .bf16) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0 = peB (grpB xat x1) xs0 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  rw [View.canon_unit_zero hz]
  show peB (kernelRun0_B.sl.v1106 c arg2 harg2 arg12 x1) (kernelRun0_B.sl.r_69 c arg11 harg11 xs0) = _
  rw [xaRead_B, waRead_B]

end Cert.KernelIdeal.Block

end
-- ==== Proof.BlockScales.lean ====
/- The block of scales: one select on the lane per group. -/
module

public import proofs.«01_k».proof.Proof.BlockOuts
public import Idealize.ShloMosaic.Lib.WordCmp

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx

variable {F : FTy → Type} [FloatOps F]

/-- One select of the chain: the group's scales where the lane is `k`, what was there elsewhere. -/
def stp (k : BitVec 32) (sc : FVec F S256x1 .f32) (acc : FVec F S256x20 .f32) : FVec F S256x20 .f32 :=
  select (cmpi .eq (iota .tc S256x20 32 [1] iota_S256x20_d1_w32) (broadcast S256x20 k))
    (broadcastTo S256x20 (shapeCast S256x1 sc shapeCasts_S256x1_S256x1) broadcasts_S256x1_S256x20) acc

theorem stp_apply (k : ℕ) (hk : k < 20) (sc : FVec F S256x1 .f32) (acc : FVec F S256x20 .f32) (a : Fin 256) (b : Fin 20) :
    stp (BitVec.ofNat 32 k) sc acc (ix2 a b) = if b.val = k then sc (ix2 a (0 : Fin 1)) else acc (ix2 a b) := by
  have e : broadcastTo S256x20 (shapeCast S256x1 sc shapeCasts_S256x1_S256x1) broadcasts_S256x1_S256x20 (ix2 a b) = sc (ix2 a (0 : Fin 1)) := by
    rw [shapeCast_self]
    refine broadcastTo_apply _ _ _ _ fun d => ?_
    match d with
    | ⟨0, _⟩ => rfl
    | ⟨1, _⟩ => rfl
  show Scalar.select (IntOp.cmpi .eq (BitVec.ofNat 32 (0 * 20 + b.val)) (BitVec.ofNat 32 k)) _ _ = _
  rw [e, WordCmp.cmpi_eq_ofNat (by omega) (by omega)]
  by_cases h : b.val = k
  · rw [if_pos h]; simp [h, Scalar.select]
  · rw [if_neg h]; simp [h, Scalar.select]

theorem inbc (n : ℕ) (hn : n < 20) : ∀ a, (![0, 128 * n] : Fin 2 → ℕ) a + S256x128.size a ≤ S256x2560.size a := fun a => by
  match a with
  | ⟨0, _⟩ => show 0 + 256 ≤ 256; omega
  | ⟨1, _⟩ => show 128 * n + 128 ≤ 2560; omega

/-- The load of group `n`. -/
def ldg (arg2 : Memref sig .tc .vmem S256x2560 .bf16) (harg2 : arg2.IsWhole) (x1 : Vec F S256x2560 .bf16) (n : ℕ) (hn : n < 20) : Vec F S256x128 .bf16 :=
  View.readAt (Elt F) arg2.view (Rect.unit (s := S256x2560) ![0, 128 * n] S256x128.size (inbc n hn)).toLoadRect (harg2.unread x1)

theorem ldg_eq (arg2 : Memref sig .tc .vmem S256x2560 .bf16) (harg2 : arg2.IsWhole) (x1 : Vec F S256x2560 .bf16) (n : ℕ) (hn : n < 20) :
    ldg arg2 harg2 x1 n hn = colsOf x1 n := by
  unfold ldg
  rw [View.readAt_eq_ld, harg2.read_unread, ld_cols x1 n hn]

theorem chain_eq (x1 : Vec F S256x2560 .bf16) :
    stp 19#32 (scl (colsOf x1 19)) (stp 18#32 (scl (colsOf x1 18)) (stp 17#32 (scl (colsOf x1 17)) (stp 16#32 (scl (colsOf x1 16)) (stp 15#32 (scl (colsOf x1 15)) (stp 14#32 (scl (colsOf x1 14)) (stp 13#32 (scl (colsOf x1 13)) (stp 12#32 (scl (colsOf x1 12)) (stp 11#32 (scl (colsOf x1 11)) (stp 10#32 (scl (colsOf x1 10)) (stp 9#32 (scl (colsOf x1 9)) (stp 8#32 (scl (colsOf x1 8)) (stp 7#32 (scl (colsOf x1 7)) (stp 6#32 (scl (colsOf x1 6)) (stp 5#32 (scl (colsOf x1 5)) (stp 4#32 (scl (colsOf x1 4)) (stp 3#32 (scl (colsOf x1 3)) (stp 2#32 (scl (colsOf x1 2)) (stp 1#32 (scl (colsOf x1 1)) (stp 0#32 (scl (colsOf x1 0)) (k0_pay219)))))))))))))))))))) = sclB x1 := by
  funext i
  obtain ⟨a, b, rfl⟩ : ∃ a b, i = ix2 a b := ⟨i 0, i 1, eq_ix2 i⟩
  show _ = scl (colsOf x1 b.val) (ix2 a (0 : Fin 1))
  have hb : b.val < 20 := b.isLt
  refine (stp_apply 19 (by omega) _ _ a b).trans ?_
  by_cases h19 : b.val = 19
  · rw [if_pos h19, h19]
  rw [if_neg h19]
  refine (stp_apply 18 (by omega) _ _ a b).trans ?_
  by_cases h18 : b.val = 18
  · rw [if_pos h18, h18]
  rw [if_neg h18]
  refine (stp_apply 17 (by omega) _ _ a b).trans ?_
  by_cases h17 : b.val = 17
  · rw [if_pos h17, h17]
  rw [if_neg h17]
  refine (stp_apply 16 (by omega) _ _ a b).trans ?_
  by_cases h16 : b.val = 16
  · rw [if_pos h16, h16]
  rw [if_neg h16]
  refine (stp_apply 15 (by omega) _ _ a b).trans ?_
  by_cases h15 : b.val = 15
  · rw [if_pos h15, h15]
  rw [if_neg h15]
  refine (stp_apply 14 (by omega) _ _ a b).trans ?_
  by_cases h14 : b.val = 14
  · rw [if_pos h14, h14]
  rw [if_neg h14]
  refine (stp_apply 13 (by omega) _ _ a b).trans ?_
  by_cases h13 : b.val = 13
  · rw [if_pos h13, h13]
  rw [if_neg h13]
  refine (stp_apply 12 (by omega) _ _ a b).trans ?_
  by_cases h12 : b.val = 12
  · rw [if_pos h12, h12]
  rw [if_neg h12]
  refine (stp_apply 11 (by omega) _ _ a b).trans ?_
  by_cases h11 : b.val = 11
  · rw [if_pos h11, h11]
  rw [if_neg h11]
  refine (stp_apply 10 (by omega) _ _ a b).trans ?_
  by_cases h10 : b.val = 10
  · rw [if_pos h10, h10]
  rw [if_neg h10]
  refine (stp_apply 9 (by omega) _ _ a b).trans ?_
  by_cases h9 : b.val = 9
  · rw [if_pos h9, h9]
  rw [if_neg h9]
  refine (stp_apply 8 (by omega) _ _ a b).trans ?_
  by_cases h8 : b.val = 8
  · rw [if_pos h8, h8]
  rw [if_neg h8]
  refine (stp_apply 7 (by omega) _ _ a b).trans ?_
  by_cases h7 : b.val = 7
  · rw [if_pos h7, h7]
  rw [if_neg h7]
  refine (stp_apply 6 (by omega) _ _ a b).trans ?_
  by_cases h6 : b.val = 6
  · rw [if_pos h6, h6]
  rw [if_neg h6]
  refine (stp_apply 5 (by omega) _ _ a b).trans ?_
  by_cases h5 : b.val = 5
  · rw [if_pos h5, h5]
  rw [if_neg h5]
  refine (stp_apply 4 (by omega) _ _ a b).trans ?_
  by_cases h4 : b.val = 4
  · rw [if_pos h4, h4]
  rw [if_neg h4]
  refine (stp_apply 3 (by omega) _ _ a b).trans ?_
  by_cases h3 : b.val = 3
  · rw [if_pos h3, h3]
  rw [if_neg h3]
  refine (stp_apply 2 (by omega) _ _ a b).trans ?_
  by_cases h2 : b.val = 2
  · rw [if_pos h2, h2]
  rw [if_neg h2]
  refine (stp_apply 1 (by omega) _ _ a b).trans ?_
  by_cases h1 : b.val = 1
  · rw [if_pos h1, h1]
  rw [if_neg h1]
  refine (stp_apply 0 (by omega) _ _ a b).trans ?_
  by_cases h0 : b.val = 0
  · rw [if_pos h0, h0]
  rw [if_neg h0]
  omega

set_option maxRecDepth 400000 in
theorem out9_A (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : cond0_0 i)
    (x0 : Vec F S9x20 .f32) (x1 : Vec F S256x2560 .bf16) (x2 : Vec F S1056x2560 .fp8e4m3) (x3 : Vec F S1x768 .f32) (x4 : Vec F S1x256 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 = sclB x1 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  rw [View.canon_unit_zero hz]
  show stp 19#32 (scl (ldg arg2 harg2 x1 19 (by omega))) (stp 18#32 (scl (ldg arg2 harg2 x1 18 (by omega))) (stp 17#32 (scl (ldg arg2 harg2 x1 17 (by omega))) (stp 16#32 (scl (ldg arg2 harg2 x1 16 (by omega))) (stp 15#32 (scl (ldg arg2 harg2 x1 15 (by omega))) (stp 14#32 (scl (ldg arg2 harg2 x1 14 (by omega))) (stp 13#32 (scl (ldg arg2 harg2 x1 13 (by omega))) (stp 12#32 (scl (ldg arg2 harg2 x1 12 (by omega))) (stp 11#32 (scl (ldg arg2 harg2 x1 11 (by omega))) (stp 10#32 (scl (ldg arg2 harg2 x1 10 (by omega))) (stp 9#32 (scl (ldg arg2 harg2 x1 9 (by omega))) (stp 8#32 (scl (ldg arg2 harg2 x1 8 (by omega))) (stp 7#32 (scl (ldg arg2 harg2 x1 7 (by omega))) (stp 6#32 (scl (ldg arg2 harg2 x1 6 (by omega))) (stp 5#32 (scl (ldg arg2 harg2 x1 5 (by omega))) (stp 4#32 (scl (ldg arg2 harg2 x1 4 (by omega))) (stp 3#32 (scl (ldg arg2 harg2 x1 3 (by omega))) (stp 2#32 (scl (ldg arg2 harg2 x1 2 (by omega))) (stp 1#32 (scl (ldg arg2 harg2 x1 1 (by omega))) (stp 0#32 (scl (ldg arg2 harg2 x1 0 (by omega))) (k0_pay219)))))))))))))))))))) = _
  simp only [ldg_eq]
  exact chain_eq x1

set_option maxRecDepth 400000 in
theorem out9_B (c : Dev nD) (i : grid0.Coords) (arg1 : Memref sig .tc .smem S9x20 .f32) (harg1 : arg1.IsWhole) (arg2 : Memref sig .tc .vmem S256x2560 .bf16) (harg2 : arg2.IsWhole) (arg3 : Memref sig .tc .vmem S1056x2560 .fp8e4m3) (harg3 : arg3.IsWhole) (arg4 : Memref sig .tc .vmem S1x768 .f32) (harg4 : arg4.IsWhole) (arg5 : Memref sig .tc .vmem S1x256 .f32) (harg5 : arg5.IsWhole) (arg6 : Memref sig .tc .vmem S256x768 .bf16) (harg6 : arg6.IsWhole) (arg7 : Memref sig .tc .vmem S256x256 .bf16) (harg7 : arg7.IsWhole) (arg8 : Memref sig .tc .vmem S256x32 .bf16) (harg8 : arg8.IsWhole) (arg9 : Memref sig .tc .vmem S256x2560 .fp8e4m3) (harg9 : arg9.IsWhole) (arg10 : Memref sig .tc .vmem S256x20 .f32) (harg10 : arg10.IsWhole) (arg11 : Memref sig .tc .vmem S1056x2560 .bf16) (harg11 : arg11.IsWhole) (arg12 : Memref sig .tc .vmem S256x2560 .bf16) (harg12 : arg12.IsWhole) (hc0 : ¬cond0_0 i)
    (x0 : Vec F S9x20 .f32) (x1 : Vec F S256x2560 .bf16) (x2 : Vec F S1056x2560 .fp8e4m3) (x3 : Vec F S1x768 .f32) (x4 : Vec F S1x256 .f32) (xs0 : Vec F S1056x2560 .bf16) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 xs0 = sclB x1 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 xs0)]
  unfold kernelRun0_B
  dsimp only
  rw [View.canon_unit_zero hz]
  show stp 19#32 (scl (ldg arg2 harg2 x1 19 (by omega))) (stp 18#32 (scl (ldg arg2 harg2 x1 18 (by omega))) (stp 17#32 (scl (ldg arg2 harg2 x1 17 (by omega))) (stp 16#32 (scl (ldg arg2 harg2 x1 16 (by omega))) (stp 15#32 (scl (ldg arg2 harg2 x1 15 (by omega))) (stp 14#32 (scl (ldg arg2 harg2 x1 14 (by omega))) (stp 13#32 (scl (ldg arg2 harg2 x1 13 (by omega))) (stp 12#32 (scl (ldg arg2 harg2 x1 12 (by omega))) (stp 11#32 (scl (ldg arg2 harg2 x1 11 (by omega))) (stp 10#32 (scl (ldg arg2 harg2 x1 10 (by omega))) (stp 9#32 (scl (ldg arg2 harg2 x1 9 (by omega))) (stp 8#32 (scl (ldg arg2 harg2 x1 8 (by omega))) (stp 7#32 (scl (ldg arg2 harg2 x1 7 (by omega))) (stp 6#32 (scl (ldg arg2 harg2 x1 6 (by omega))) (stp 5#32 (scl (ldg arg2 harg2 x1 5 (by omega))) (stp 4#32 (scl (ldg arg2 harg2 x1 4 (by omega))) (stp 3#32 (scl (ldg arg2 harg2 x1 3 (by omega))) (stp 2#32 (scl (ldg arg2 harg2 x1 2 (by omega))) (stp 1#32 (scl (ldg arg2 harg2 x1 1 (by omega))) (stp 0#32 (scl (ldg arg2 harg2 x1 0 (by omega))) (k0_pay219)))))))))))))))))))) = _
  simp only [ldg_eq]
  exact chain_eq x1

end Cert.KernelIdeal.Block

end
-- ==== Proof.Arrays.lean ====
/- The kernel's five result arrays: each is, row block by row block, the block functions of the activations' rows. -/
module

public import proofs.«01_k».proof.Proof.BlockCodes
public import proofs.«01_k».proof.Proof.BlockScales
public import Idealize.ShloMosaic.Lib.StableHlo.Run

@[expose] public section

set_option maxRecDepth 16384

noncomputable section

namespace Cert.KernelIdeal.Arrays

open Cert.KernelIdeal Cert.KernelIdeal.Gen Cert.KernelIdeal.Value Cert.KernelIdeal.Block
open Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## What the region finds in its arrays -/

theorem V_main_v0 (c : Dev nD) : V m c main_v0 = shapeCast S2048x2560 (m ((c : Thread nD τ).loc main_arg0)) shapeCasts_S4x512x2560_S2048x2560 := by
  show StableHlo.after hostOps0 _ (Proc.devRef .tc main_v0) = _
  after_results
  rfl

theorem V_main_v1 (c : Dev nD) : V m c main_v1 = shapeCast S1x768 (m ((c : Thread nD τ).loc main_arg3)) shapeCasts_S768_S1x768 := by
  show StableHlo.after hostOps0 _ (Proc.devRef .tc main_v1) = _
  after_results
  rfl

theorem V_main_v2 (c : Dev nD) : V m c main_v2 = shapeCast S1x256 (m ((c : Thread nD τ).loc main_arg4)) shapeCasts_S256_S1x256 := by
  show StableHlo.after hostOps0 _ (Proc.devRef .tc main_v2) = _
  after_results
  rfl

/-! ## The blocks read at a point -/

theorem idx_0 : ∀ t : Fin cfg0.N, win0_0.index t 0 = 0 ∧ win0_0.index t 1 = 0 :=
  (by decide +kernel : ∀ t : Fin grid0.N, _)
theorem idx_1 : ∀ t : Fin cfg0.N, win0_1.index t 0 = t.val ∧ win0_1.index t 1 = 0 :=
  (by decide +kernel : ∀ t : Fin grid0.N, _)
theorem idx_2 : ∀ t : Fin cfg0.N, win0_2.index t 0 = 0 ∧ win0_2.index t 1 = 0 :=
  (by decide +kernel : ∀ t : Fin grid0.N, _)
theorem idx_3 : ∀ t : Fin cfg0.N, win0_3.index t 0 = 0 ∧ win0_3.index t 1 = 0 :=
  (by decide +kernel : ∀ t : Fin grid0.N, _)
theorem idx_4 : ∀ t : Fin cfg0.N, win0_4.index t 0 = 0 ∧ win0_4.index t 1 = 0 :=
  (by decide +kernel : ∀ t : Fin grid0.N, _)

/-- The scales of the weights, whole. -/
theorem iblk_0 (c : Dev nD) (t : Fin cfg0.N) : (iblk m c 0 t : Vec F S9x20 .f32) = m ((c : Thread nD τ).loc main_arg2) := by
  have hi := idx_0 t
  funext j
  unfold iblk
  rw [View.read_apply]
  refine (congrFun (V_main_arg2 m c) _).trans ?_
  refine congrArg (m ((c : Thread nD τ).loc main_arg2)) (funext fun a => Fin.ext ?_)
  match a with
  | ⟨0, _⟩ => show win0_0.index t 0 * 9 + 1 * (j 0).val = (j 0).val; rw [hi.1]; omega
  | ⟨1, _⟩ => show win0_0.index t 1 * 20 + 1 * (j 1).val = (j 1).val; rw [hi.2]; omega

/-- The weights, whole. -/
theorem iblk_2 (c : Dev nD) (t : Fin cfg0.N) : (iblk m c 2 t : Vec F S1056x2560 .fp8e4m3) = m ((c : Thread nD τ).loc main_arg1) := by
  have hi := idx_2 t
  funext j
  unfold iblk
  rw [View.read_apply]
  refine (congrFun (V_main_arg1 m c) _).trans ?_
  refine congrArg (m ((c : Thread nD τ).loc main_arg1)) (funext fun a => Fin.ext ?_)
  match a with
  | ⟨0, _⟩ => show win0_2.index t 0 * 1056 + 1 * (j 0).val = (j 0).val; rw [hi.1]; omega
  | ⟨1, _⟩ => show win0_2.index t 1 * 2560 + 1 * (j 1).val = (j 1).val; rw [hi.2]; omega

/-- The first gain, as a row. -/
theorem iblk_3 (c : Dev nD) (t : Fin cfg0.N) : (iblk m c 3 t : Vec F S1x768 .f32) = shapeCast S1x768 (m ((c : Thread nD τ).loc main_arg3)) shapeCasts_S768_S1x768 := by
  have hi := idx_3 t
  funext j
  unfold iblk
  rw [View.read_apply]
  refine (congrFun (V_main_v1 m c) _).trans ?_
  refine congrArg (shapeCast S1x768 (m ((c : Thread nD τ).loc main_arg3)) shapeCasts_S768_S1x768) (funext fun a => Fin.ext ?_)
  match a with
  | ⟨0, _⟩ => show win0_3.index t 0 * 1 + 1 * (j 0).val = (j 0).val; rw [hi.1]; omega
  | ⟨1, _⟩ => show win0_3.index t 1 * 768 + 1 * (j 1).val = (j 1).val; rw [hi.2]; omega

/-- The second gain, as a row. -/
theorem iblk_4 (c : Dev nD) (t : Fin cfg0.N) : (iblk m c 4 t : Vec F S1x256 .f32) = shapeCast S1x256 (m ((c : Thread nD τ).loc main_arg4)) shapeCasts_S256_S1x256 := by
  have hi := idx_4 t
  funext j
  unfold iblk
  rw [View.read_apply]
  refine (congrFun (V_main_v2 m c) _).trans ?_
  refine congrArg (shapeCast S1x256 (m ((c : Thread nD τ).loc main_arg4)) shapeCasts_S256_S1x256) (funext fun a => Fin.ext ?_)
  match a with
  | ⟨0, _⟩ => show win0_4.index t 0 * 1 + 1 * (j 0).val = (j 0).val; rw [hi.1]; omega
  | ⟨1, _⟩ => show win0_4.index t 1 * 256 + 1 * (j 1).val = (j 1).val; rw [hi.2]; omega

/-- Row `r` of the activations, as rows of 2560 (read modulo 2048, so that every number names one). -/
def rowAt (n : ℕ) (r : Fin 256) : Fin 2048 := ⟨(256 * n + r.val) % 2048, Nat.mod_lt _ (by decide)⟩

/-- The block of 256 rows number `n` of the activations. -/
def rowsOf (a0 : Vec F S4x512x2560 .bf16) (n : ℕ) : Vec F S256x2560 .bf16 := fun j =>
  shapeCast S2048x2560 a0 shapeCasts_S4x512x2560_S2048x2560 (ix2 (rowAt n (j 0)) (j 1))

theorem iblk_1 (c : Dev nD) (t : Fin cfg0.N) : (iblk m c 1 t : Vec F S256x2560 .bf16) = rowsOf (m ((c : Thread nD τ).loc main_arg0)) t.val := by
  have hi := idx_1 t
  have ht : t.val < 8 := lt_of_lt_of_eq t.isLt N_0
  funext j
  have h0 : (j 0).val < 256 := (j 0).isLt
  unfold iblk
  rw [View.read_apply]
  refine (congrFun (V_main_v0 m c) _).trans ?_
  refine congrArg (shapeCast S2048x2560 (m ((c : Thread nD τ).loc main_arg0)) shapeCasts_S4x512x2560_S2048x2560) (funext fun a => Fin.ext ?_)
  match a with
  | ⟨0, _⟩ => show win0_1.index t 0 * 256 + 1 * (j 0).val = (256 * t.val + (j 0).val) % 2048; rw [hi.1]; omega
  | ⟨1, _⟩ => show win0_1.index t 1 * 2560 + 1 * (j 1).val = (j 1).val; rw [hi.2]; omega

/-! ## What the buffers hold after a point -/

/-- The five output blocks and the dequantised weights, of the block of rows number `n`. -/
def outsOf (a0 : Vec F S4x512x2560 .bf16) (a1 : Vec F S1056x2560 .fp8e4m3) (a2 : Vec F S9x20 .f32) (a3 : Vec F S768 .f32) (a4 : Vec F S256 .f32) (n : ℕ) :
    Vec F S256x768 .bf16 × Vec F S256x256 .bf16 × Vec F S256x32 .bf16 × Vec F S256x2560 .fp8e4m3 × Vec F S256x20 .f32 × Vec F S1056x2560 .bf16 :=
  (qB (grpB xat (rowsOf a0 n)) (waB a2 a1) (shapeCast S1x768 a3 shapeCasts_S768_S1x768),
   kvB (grpB xat (rowsOf a0 n)) (waB a2 a1) (shapeCast S1x256 a4 shapeCasts_S256_S1x256),
   peB (grpB xat (rowsOf a0 n)) (waB a2 a1), grpB cod (rowsOf a0 n), sclB (rowsOf a0 n), waB a2 a1)

theorem tup {α β γ δ ε ζ : Type} {a a' : α} {b b' : β} {c c' : γ} {d d' : δ} {e e' : ε} {f f' : ζ}
    (h1 : a = a') (h2 : b = b') (h3 : c = c') (h4 : d = d') (h5 : e = e') (h6 : f = f') : (a, b, c, d, e, f) = (a', b', c', d', e', f') := by
  rw [h1, h2, h3, h4, h5, h6]

theorem outsAt_eq (c : Dev nD) : ∀ (n : ℕ) (h : n < cfg0.N), outsAt0 m c n h
    = outsOf (m ((c : Thread nD τ).loc main_arg0)) (m ((c : Thread nD τ).loc main_arg1)) (m ((c : Thread nD τ).loc main_arg2))
        (m ((c : Thread nD τ).loc main_arg3)) (m ((c : Thread nD τ).loc main_arg4)) n := by
  intro n
  induction n with
  | zero =>
    intro h
    refine (outsAt0_A m c ⟨0, h⟩ rfl).trans ?_
    refine tup ((out5_A ..).trans ?_) ((out6_A ..).trans ?_) ((out7_A ..).trans ?_) ((out8_A ..).trans ?_) ((out9_A ..).trans ?_) ((sout_A ..).trans ?_)
    all_goals simp only [iblk_0, iblk_1, iblk_2, iblk_3, iblk_4]
  | succ n ih =>
    intro h
    have hN : cfg0.N = 8 := N_0
    have hB : ¬(⟨n + 1, h⟩ : Fin cfg0.N).val % 8 = 0 := by dsimp only; omega
    have e : (outsAt0 m c n (Nat.lt_of_succ_lt h)).2.2.2.2.2 = waB (m ((c : Thread nD τ).loc main_arg2)) (m ((c : Thread nD τ).loc main_arg1)) := by
      rw [ih]; rfl
    refine (outsAt0_B m c ⟨n + 1, h⟩ hB).trans ?_
    refine tup ((out5_B ..).trans ?_) ((out6_B ..).trans ?_) ((out7_B ..).trans ?_) ((out8_B ..).trans ?_) ((out9_B ..).trans ?_) ?_
    · exact (congrArg (fun w => qB _ w _) e).trans (by simp only [iblk_1, iblk_3])
    · exact (congrArg (fun w => kvB _ w _) e).trans (by simp only [iblk_1, iblk_4])
    · exact (congrArg (fun w => peB _ w) e).trans (by simp only [iblk_1])
    · simp only [iblk_1]
    · simp only [iblk_1]
    · exact e

/-! ## The result arrays -/

/-- The block a row lies in, and its place there. -/
def blkRow (r : Fin 2048) : Fin 256 := ⟨r.val % 256, Nat.mod_lt _ (by decide)⟩

theorem G5_eq (c : Dev nD) (r : Fin 2048) (j : Fin 768) : G5 m c (ix2 r j)
    = (outsOf (m ((c : Thread nD τ).loc main_arg0)) (m ((c : Thread nD τ).loc main_arg1)) (m ((c : Thread nD τ).loc main_arg2))
        (m ((c : Thread nD τ).loc main_arg3)) (m ((c : Thread nD τ).loc main_arg4)) (r.val / 256)).1 (ix2 (blkRow r) j) := by
  have hN : cfg0.N = 8 := N_0
  have hr := r.isLt
  have hj := j.isLt
  have hp : pt5Of (ix2 r j) = r.val / 256 := by
    show 1 * (r.val / 256 - 0) + 1 * (j.val / 768 - 0) = _
    rw [Nat.div_eq_of_lt hj]; omega
  have h : pt5Of (ix2 r j) < cfg0.N := by rw [hp, hN]; omega
  have hl : loc5Of (ix2 r j) = ix2 (blkRow r) j := funext fun a => Fin.ext (by
    match a with
    | ⟨0, _⟩ => rfl
    | ⟨1, _⟩ => show j.val % 768 = j.val; exact Nat.mod_eq_of_lt hj)
  unfold G5
  rw [dif_pos h, ← outsAt0_sweep m c _ h, outsAt_eq, hl, hp]

theorem G6_eq (c : Dev nD) (r : Fin 2048) (j : Fin 256) : G6 m c (ix2 r j)
    = (outsOf (m ((c : Thread nD τ).loc main_arg0)) (m ((c : Thread nD τ).loc main_arg1)) (m ((c : Thread nD τ).loc main_arg2))
        (m ((c : Thread nD τ).loc main_arg3)) (m ((c : Thread nD τ).loc main_arg4)) (r.val / 256)).2.1 (ix2 (blkRow r) j) := by
  have hN : cfg0.N = 8 := N_0
  have hr := r.isLt
  have hj := j.isLt
  have hp : pt6Of (ix2 r j) = r.val / 256 := by
    show 1 * (r.val / 256 - 0) + 1 * (j.val / 256 - 0) = _
    rw [Nat.div_eq_of_lt hj]; omega
  have h : pt6Of (ix2 r j) < cfg0.N := by rw [hp, hN]; omega
  have hl : loc6Of (ix2 r j) = ix2 (blkRow r) j := funext fun a => Fin.ext (by
    match a with
    | ⟨0, _⟩ => rfl
    | ⟨1, _⟩ => show j.val % 256 = j.val; exact Nat.mod_eq_of_lt hj)
  unfold G6
  rw [dif_pos h, ← outsAt0_sweep m c _ h, outsAt_eq, hl, hp]

theorem G7_eq (c : Dev nD) (r : Fin 2048) (j : Fin 32) : G7 m c (ix2 r j)
    = (outsOf (m ((c : Thread nD τ).loc main_arg0)) (m ((c : Thread nD τ).loc main_arg1)) (m ((c : Thread nD τ).loc main_arg2))
        (m ((c : Thread nD τ).loc main_arg3)) (m ((c : Thread nD τ).loc main_arg4)) (r.val / 256)).2.2.1 (ix2 (blkRow r) j) := by
  have hN : cfg0.N = 8 := N_0
  have hr := r.isLt
  have hj := j.isLt
  have hp : pt7Of (ix2 r j) = r.val / 256 := by
    show 1 * (r.val / 256 - 0) + 1 * (j.val / 32 - 0) = _
    rw [Nat.div_eq_of_lt hj]; omega
  have h : pt7Of (ix2 r j) < cfg0.N := by rw [hp, hN]; omega
  have hl : loc7Of (ix2 r j) = ix2 (blkRow r) j := funext fun a => Fin.ext (by
    match a with
    | ⟨0, _⟩ => rfl
    | ⟨1, _⟩ => show j.val % 32 = j.val; exact Nat.mod_eq_of_lt hj)
  unfold G7
  rw [dif_pos h, ← outsAt0_sweep m c _ h, outsAt_eq, hl, hp]

theorem G8_eq (c : Dev nD) (r : Fin 2048) (j : Fin 2560) : G8 m c (ix2 r j)
    = (outsOf (m ((c : Thread nD τ).loc main_arg0)) (m ((c : Thread nD τ).loc main_arg1)) (m ((c : Thread nD τ).loc main_arg2))
        (m ((c : Thread nD τ).loc main_arg3)) (m ((c : Thread nD τ).loc main_arg4)) (r.val / 256)).2.2.2.1 (ix2 (blkRow r) j) := by
  have hN : cfg0.N = 8 := N_0
  have hr := r.isLt
  have hj := j.isLt
  have hp : pt8Of (ix2 r j) = r.val / 256 := by
    show 1 * (r.val / 256 - 0) + 1 * (j.val / 2560 - 0) = _
    rw [Nat.div_eq_of_lt hj]; omega
  have h : pt8Of (ix2 r j) < cfg0.N := by rw [hp, hN]; omega
  have hl : loc8Of (ix2 r j) = ix2 (blkRow r) j := funext fun a => Fin.ext (by
    match a with
    | ⟨0, _⟩ => rfl
    | ⟨1, _⟩ => show j.val % 2560 = j.val; exact Nat.mod_eq_of_lt hj)
  unfold G8
  rw [dif_pos h, ← outsAt0_sweep m c _ h, outsAt_eq, hl, hp]

theorem G9_eq (c : Dev nD) (r : Fin 2048) (j : Fin 20) : G9 m c (ix2 r j)
    = (outsOf (m ((c : Thread nD τ).loc main_arg0)) (m ((c : Thread nD τ).loc main_arg1)) (m ((c : Thread nD τ).loc main_arg2))
        (m ((c : Thread nD τ).loc main_arg3)) (m ((c : Thread nD τ).loc main_arg4)) (r.val / 256)).2.2.2.2.1 (ix2 (blkRow r) j) := by
  have hN : cfg0.N = 8 := N_0
  have hr := r.isLt
  have hj := j.isLt
  have hp : pt9Of (ix2 r j) = r.val / 256 := by
    show 1 * (r.val / 256 - 0) + 1 * (j.val / 20 - 0) = _
    rw [Nat.div_eq_of_lt hj]; omega
  have h : pt9Of (ix2 r j) < cfg0.N := by rw [hp, hN]; omega
  have hl : loc9Of (ix2 r j) = ix2 (blkRow r) j := funext fun a => Fin.ext (by
    match a with
    | ⟨0, _⟩ => rfl
    | ⟨1, _⟩ => show j.val % 20 = j.val; exact Nat.mod_eq_of_lt hj)
  unfold G9
  rw [dif_pos h, ← outsAt0_sweep m c _ h, outsAt_eq, hl, hp]

end Cert.KernelIdeal.Arrays

end
-- ==== Proof.Scale.lean ====
/- The power-of-two scale of a group, two ways: by counting the powers of two below the group's ratio, as the kernel does,
   and by the whole part of the ratio's logarithm. Within the stated range both give one number. -/
module

public import Idealize.ShloMosaic.PureOps.Ideal
public import Idealize.ShloMosaic.PureOps.Ideal.Laws
public import Idealize.ShloMosaic.Lib.IndicatorCount

@[expose] public section

set_option maxRecDepth 16384

noncomputable section

namespace Cert.Scale

open Idealize.ShloMosaic

/-- The reciprocal of the largest code, as the two programs spell it. -/
abbrev cst : EReal := Ideal.ofBits .f32 0x3B124925#32

/-- The range the claim is stated on: a group of zeros, or one whose ratio has an exponent within the format. -/
def Good (a : EReal) : Prop :=
  a = 0 ∨ (Ideal.ofBits .f32 0x00800000#32 ≤ a * cst ∧ a * cst < Ideal.ofBits .f32 0x7E800000#32)

/-- The exponent: zero for a group of zeros, one more than the whole part of the ratio's logarithm otherwise. -/
def expo (a : EReal) : EReal :=
  Scalar.select (Ideal.cmp .oeq a (Ideal.ofBits .f32 0x00000000#32)) (Ideal.ofBits .f32 0x00000000#32)
    (Ideal.liftRound Int.floor (Ideal.div (Ideal.log (a * cst)) (Ideal.log (Ideal.ofBits .f32 0x40000000#32))) + Ideal.ofBits .f32 0x3F800000#32)

/-- The number of patterns `k · 2^23`, `k` below 256, whose value is at most the ratio. -/
def cnt (a : EReal) : BitVec 32 :=
  Finset.univ.fold IntOp.addi 0#32 fun k : Fin 256 =>
    (Ideal.cmp .ole (Ideal.ofBits .f32 (IntOp.shli .vector (BitVec.ofNat 32 k.val) 23#32)) (a * cst)).setWidth 32

/-- The biased exponent the kernel takes. -/
def biased (a : EReal) : BitVec 32 :=
  Scalar.select (IntOp.cmpi .sgt (IntOp.addi (IntOp.subi (cnt a) 1#32) 1#32) 1#32) (IntOp.addi (IntOp.subi (cnt a) 1#32) 1#32) 127#32

theorem shl_toNat (k : ℕ) (hk : k < 256) : (BitVec.ofNat 32 k <<< 23).toNat = k * 2 ^ 23 := by
  rw [BitVec.toNat_shiftLeft, BitVec.toNat_ofNat, Nat.shiftLeft_eq]
  omega

/-- The pattern with biased exponent `k` and no fraction is a power of two. -/
theorem ofBits_pow (k : ℕ) (h1 : 1 ≤ k) (h2 : k ≤ 254) :
    Ideal.ofBits .f32 (BitVec.ofNat 32 k <<< 23) = (((2 : ℝ) ^ ((k : ℤ) - 127) : ℝ) : EReal) := by
  have hn := shl_toNat k (by omega)
  generalize BitVec.ofNat 32 k <<< 23 = b at hn
  have e1 : (b.extractLsb' 23 8).toNat = k := by
    rw [BitVec.extractLsb'_toNat, Nat.shiftRight_eq_div_pow, hn]; omega
  have e2 : (b.extractLsb' 0 23).toNat = 0 := by
    rw [BitVec.extractLsb'_toNat, Nat.shiftRight_eq_div_pow, hn]; omega
  have e3 : (b.extractLsb' 31 1) = 0#1 := by
    apply BitVec.eq_of_toNat_eq
    rw [BitVec.extractLsb'_toNat, Nat.shiftRight_eq_div_pow, hn]
    show _ = 0
    omega
  show Ideal.ieee 8 23 b = _
  unfold Ideal.ieee
  simp only [e1, e2]
  rw [if_neg (by omega), if_neg (by omega), show (8 + 23) = 31 from rfl, e3]
  congr 1
  have h2 : (2 : ℝ) ≠ 0 := by norm_num
  have : ((k : ℤ) - (2 ^ (8 - 1) - 1) - ((23 : ℕ) : ℤ)) = ((k : ℤ) - 127) - 23 := by norm_num
  rw [this, zpow_sub₀ h2]
  norm_num
  field_simp

theorem ofBits_inf : Ideal.ofBits .f32 (BitVec.ofNat 32 255 <<< 23) = ⊤ := by
  simp [Ideal.ofBits, Ideal.ieee]

theorem ofBits_zero' : Ideal.ofBits .f32 (BitVec.ofNat 32 0 <<< 23) = 0 := by
  simp [Ideal.ofBits, Ideal.ieee]

theorem cst_real : ∃ c : ℝ, 0 < c ∧ cst = (c : EReal) := by
  refine ⟨(2 ^ 23 + 0x124925 : ℕ) * (2 : ℝ) ^ (-32 : ℤ), by positivity, ?_⟩
  show Ideal.ofBits .f32 0x3B124925#32 = _
  simp [Ideal.ofBits, Ideal.ieee, -EReal.coe_mul]

theorem lo_real : Ideal.ofBits .f32 0x00800000#32 = (((2 : ℝ) ^ (-126 : ℤ) : ℝ) : EReal) := ofBits_pow 1 (by omega) (by omega)
theorem hi_real : Ideal.ofBits .f32 0x7E800000#32 = (((2 : ℝ) ^ (126 : ℤ) : ℝ) : EReal) := ofBits_pow 253 (by omega) (by omega)
theorem two_real : Ideal.ofBits .f32 0x40000000#32 = ((2 : ℝ) : EReal) := by
  have := ofBits_pow 128 (by omega) (by omega)
  rw [show (((128 : ℕ) : ℤ) - 127) = 1 by norm_num, zpow_one] at this
  exact this

theorem one_real : Ideal.ofBits .f32 0x3F800000#32 = ((1 : ℝ) : EReal) := by
  have := ofBits_pow 127 (by omega) (by omega)
  rw [show (((127 : ℕ) : ℤ) - 127) = 0 by norm_num, zpow_zero] at this
  exact this

theorem shli_eq (x : BitVec 32) : IntOp.shli .vector x 23#32 = x <<< 23 := rfl

theorem subi_eq (k : ℕ) (hk : k ≤ 254) : IntOp.subi 254#32 (BitVec.ofNat 32 k) = BitVec.ofNat 32 (254 - k) := by
  unfold IntOp.subi
  exact BitVec.ofNat_sub_ofNat_of_le 254 k (by omega) hk

theorem select_zero {α : Type} (x y : α) : Scalar.select 0#1 x y = y := rfl

theorem exp2_coe (x : ℝ) : Ideal.exp2 (x : EReal) = (((2 : ℝ) ^ x : ℝ) : EReal) := rfl

theorem exp2_int (z : ℤ) : Ideal.exp2 ((z : ℝ) : EReal) = (((2 : ℝ) ^ z : ℝ) : EReal) := by
  rw [exp2_coe, Real.rpow_intCast]

/-- The count, when the ratio lies in binade `E` of the format. -/
theorem cnt_eq (a : EReal) (E : ℕ) (hE : E < 255)
    (h : ∀ k : ℕ, k < 256 → (Ideal.ofBits .f32 (BitVec.ofNat 32 k <<< 23) ≤ a * cst ↔ k ≤ E)) : cnt a = BitVec.ofNat 32 (E + 1) := by
  unfold cnt
  rw [IndicatorCount.fold_addi_setWidth_eq_card]
  congr 1
  have : (Finset.univ.filter fun k : Fin 256 => Ideal.cmp .ole (Ideal.ofBits .f32 (IntOp.shli .vector (BitVec.ofNat 32 k.val) 23#32)) (a * cst) = 1#1)
      = Finset.univ.filter fun k : Fin 256 => k.val < E + 1 := by
    refine Finset.filter_congr fun k _ => ?_
    have e : IntOp.shli .vector (BitVec.ofNat 32 k.val) 23#32 = BitVec.ofNat 32 k.val <<< 23 := rfl
    have hk := h k.val k.isLt
    rw [e]
    unfold Ideal.cmp
    simp only
    rw [show ((1#1 : BitVec 1)) = BitVec.ofBool true from rfl]
    constructor
    · intro hb
      have := hk.mp (by
        by_contra hn
        rw [decide_eq_false hn] at hb
        exact absurd hb (by decide))
      omega
    · intro hb
      rw [decide_eq_true (hk.mpr (by omega))]
  rw [this, Fin.card_filter_val_lt]
  omega

theorem biased_of (a : EReal) (E : ℕ) (h1 : 1 ≤ E) (h2 : E < 255) (h : cnt a = BitVec.ofNat 32 (E + 1)) : biased a = BitVec.ofNat 32 (E + 1) := by
  have e : IntOp.addi (IntOp.subi (cnt a) 1#32) 1#32 = BitVec.ofNat 32 (E + 1) := by
    rw [h]; exact BitVec.sub_add_cancel _ _
  unfold biased
  rw [e]
  have : IntOp.cmpi .sgt (BitVec.ofNat 32 (E + 1)) 1#32 = 1 := by
    show BitVec.ofBool ((1#32).slt (BitVec.ofNat 32 (E + 1))) = 1
    have : (1#32).slt (BitVec.ofNat 32 (E + 1)) = true := by
      have e1 : (BitVec.ofNat 32 (E + 1)).toNat = E + 1 := by rw [BitVec.toNat_ofNat]; omega
      rw [BitVec.slt_iff_toInt_lt, BitVec.toInt_eq_toNat_of_lt (x := BitVec.ofNat 32 (E + 1)) (by rw [e1]; omega), e1]
      show (1 : ℤ) < _
      omega
    rw [this]; rfl
  rw [this]; rfl

/-- The powers of two at most `r` are those up to the whole part of its logarithm. -/
theorem zpow_le_iff (r : ℝ) (hr : 0 < r) (k : ℤ) : (2 : ℝ) ^ k ≤ r ↔ k ≤ ⌊Real.log r / Real.log 2⌋ := by
  have hp : 0 < Real.log 2 := Real.log_pos (by norm_num)
  rw [Int.le_floor, le_div_iff₀ hp, ← Real.log_zpow, Real.log_le_log_iff (by positivity) hr]

/-- Within the range, the kernel's scale and its reciprocal are the powers of two of the exponent and its opposite. -/
theorem scale_eq (a : EReal) (h : Good a) :
    Ideal.ofBits .f32 (IntOp.shli .vector (biased a) 23#32) = Ideal.exp2 (expo a)
      ∧ Ideal.ofBits .f32 (IntOp.shli .vector (IntOp.subi 254#32 (biased a)) 23#32)
        = Ideal.exp2 (Ideal.ofBits .f32 0x00000000#32 - expo a) := by
  by_cases ha : a = 0
  · subst ha
    have hc : cnt 0 = BitVec.ofNat 32 1 := by
      refine cnt_eq 0 0 (by omega) fun k hk => ?_
      rw [zero_mul]
      by_cases h0 : k = 0
      · subst h0; rw [ofBits_zero']; simp
      · refine ⟨fun hle => ?_, fun h => absurd (Nat.le_zero.mp h) h0⟩
        exfalso
        by_cases h5 : k = 255
        · subst h5; rw [ofBits_inf] at hle; exact absurd hle (by simp)
        · rw [ofBits_pow k (by omega) (by omega)] at hle
          have : (0 : ℝ) < (2 : ℝ) ^ ((k : ℤ) - 127) := by positivity
          exact absurd hle (not_le.mpr (by exact_mod_cast this))
    have hb : biased 0 = 127#32 := by
      unfold biased; rw [hc]; rfl
    have he : expo 0 = 0 := by
      unfold expo
      rw [Ideal.ofBits_zero_f32]
      simp [Ideal.cmp, Scalar.select]
    have h1 := ofBits_pow 127 (by omega) (by omega)
    rw [show (((127 : ℕ) : ℤ) - 127) = 0 by norm_num, zpow_zero] at h1
    have hx : Ideal.exp2 0 = ((1 : ℝ) : EReal) := by
      show ((Real.rpow 2 0 : ℝ) : EReal) = _
      congr 1; exact Real.rpow_zero 2
    rw [hb, he, Ideal.ofBits_zero_f32, sub_zero, hx]
    exact ⟨h1, h1⟩
  · obtain ⟨hlo, hhi⟩ := h.resolve_left ha
    rw [lo_real] at hlo
    rw [hi_real] at hhi
    obtain ⟨r, hr⟩ : ∃ r : ℝ, a * cst = (r : EReal) := by
      refine ⟨(a * cst).toReal, (EReal.coe_toReal ?_ ?_).symm⟩
      · exact ne_top_of_lt hhi
      · exact ne_bot_of_gt (lt_of_lt_of_le (EReal.bot_lt_coe _) hlo)
    rw [hr] at hlo hhi
    have hlo' : (2 : ℝ) ^ (-126 : ℤ) ≤ r := by exact_mod_cast hlo
    have hhi' : r < (2 : ℝ) ^ (126 : ℤ) := by exact_mod_cast hhi
    have hr0 : 0 < r := lt_of_lt_of_le (by positivity) hlo'
    have hl1 : -126 ≤ ⌊Real.log r / Real.log 2⌋ := (zpow_le_iff r hr0 _).mp hlo'
    have hl2 : ⌊Real.log r / Real.log 2⌋ < 126 := not_le.mp fun h => absurd ((zpow_le_iff r hr0 _).mpr h) (not_le.mpr hhi')
    obtain ⟨E, hE⟩ : ∃ E : ℕ, (E : ℤ) = ⌊Real.log r / Real.log 2⌋ + 127 := ⟨(⌊Real.log r / Real.log 2⌋ + 127).toNat, by omega⟩
    have hc : cnt a = BitVec.ofNat 32 (E + 1) := by
      refine cnt_eq a E (by omega) fun k hk => ?_
      rw [hr]
      by_cases h0 : k = 0
      · subst h0; rw [ofBits_zero']
        exact ⟨fun _ => Nat.zero_le _, fun _ => by exact_mod_cast hr0.le⟩
      · by_cases h5 : k = 255
        · subst h5; rw [ofBits_inf]
          refine ⟨fun hle => absurd hle (by simp), fun h => ?_⟩
          omega
        · rw [ofBits_pow k (by omega) (by omega), EReal.coe_le_coe_iff]
          rw [zpow_le_iff r hr0]
          omega
    have hb := biased_of a E (by omega) (by omega) hc
    have he : expo a = (((⌊Real.log r / Real.log 2⌋ + 1 : ℤ) : ℝ) : EReal) := by
      unfold expo
      have hs : Ideal.cmp .oeq a (Ideal.ofBits .f32 0x00000000#32) = 0#1 := by
        rw [Ideal.ofBits_zero_f32]; simp [Ideal.cmp, ha]
      rw [hs, hr, two_real, one_real]
      have hL : Ideal.div (Ideal.log (r : EReal)) (Ideal.log ((2 : ℝ) : EReal)) = ((Real.log r / Real.log 2 : ℝ) : EReal) := by
        have e1 : Ideal.log (r : EReal) = ((Real.log r : ℝ) : EReal) := if_neg (not_le.mpr hr0)
        have e2 : Ideal.log ((2 : ℝ) : EReal) = ((Real.log 2 : ℝ) : EReal) := if_neg (by norm_num)
        have hp : 0 < Real.log 2 := Real.log_pos (by norm_num)
        rw [e1, e2]
        unfold Ideal.div
        rw [if_neg (by exact_mod_cast hp.ne')]
        rw [← EReal.coe_inv, ← EReal.coe_mul]
        congr 1
      rw [hL]
      have hf : Ideal.liftRound Int.floor ((Real.log r / Real.log 2 : ℝ) : EReal) = (((⌊Real.log r / Real.log 2⌋ : ℤ) : ℝ) : EReal) := by
        rfl
      rw [hf]
      rw [select_zero, Int.cast_add, Int.cast_one, EReal.coe_add]
    have hx := exp2_int
    have e := subi_eq (E + 1) (by omega)
    have e1 := ofBits_pow (E + 1) (by omega) (by omega)
    have e2 := ofBits_pow (254 - (E + 1)) (by omega) (by omega)
    rw [hb, he, Ideal.ofBits_zero_f32, zero_sub, ← EReal.coe_neg, ← Int.cast_neg, hx, hx, e, shli_eq, shli_eq, e1, e2]
    have i1 : ((E + 1 : ℕ) : ℤ) - 127 = ⌊Real.log r / Real.log 2⌋ + 1 := by push_cast; omega
    have i2 : ((254 - (E + 1) : ℕ) : ℤ) - 127 = -(⌊Real.log r / Real.log 2⌋ + 1) := by omega
    rw [i1, i2]
    exact ⟨rfl, rfl⟩

end Cert.Scale

end
-- ==== Proof.Groups.lean ====
/- The mathematics of the layer over the extended reals, element by element, and the kernel's block functions read as it. -/
module

public import proofs.«01_k».proof.Proof.Arrays
public import proofs.«01_k».proof.Proof.Scale
public import Idealize.ShloMosaic.Lib.Pointwise

@[expose] public section

set_option maxRecDepth 16384

noncomputable section

namespace Cert.Groups

open Idealize.ShloMosaic Cert.Scale

/-! ## The layer, element by element -/

/-- The largest magnitude of a group. -/
def amax (f : Fin 128 → EReal) : EReal :=
  Finset.univ.fold max (Ideal.ofBits .f32 0xFF800000#32) fun k => max (f k) (-(f k))

/-- A group's scale. -/
def gscl (f : Fin 128 → EReal) : EReal := Ideal.exp2 (expo (amax f))

/-- The reciprocal of a group's scale. -/
def ginv (f : Fin 128 → EReal) : EReal := Ideal.exp2 (Ideal.ofBits .f32 0x00000000#32 - expo (amax f))

/-- A number held between the largest code and its opposite. -/
def clip (x : EReal) : EReal := min (Ideal.ofBits .f32 0x43E00000#32) (max (Ideal.ofBits .f32 0xC3E00000#32) x)

/-- A row of the activations. -/
def row (a0 : (⟨3, ![4, 512, 2560]⟩ : Shape).Idx → EReal) (R : Fin 2048) (k : Fin 2560) : EReal :=
  a0 (ix3 (⟨R.val / 512, by have := R.isLt; omega⟩ : Fin 4) (⟨R.val % 512, by omega⟩ : Fin 512) k)

/-- Group `n` of a row (the column read modulo 2560, so that every number names a group). -/
def grp (x : Fin 2560 → EReal) (n : ℕ) : Fin 128 → EReal := fun j => x ⟨(128 * n + j.val) % 2560, Nat.mod_lt _ (by decide)⟩

/-- The code of a column of a row. -/
def code (x : Fin 2560 → EReal) (k : Fin 2560) : EReal := clip (x k * ginv (grp x (k.val / 128)))

/-- The dequantised activation at a column of a row. -/
def act (x : Fin 2560 → EReal) (k : Fin 2560) : EReal := code x k * gscl (grp x (k.val / 128))

/-- The dequantised weight at an output column and an input column. -/
def wgt (a2 : (⟨2, ![9, 20]⟩ : Shape).Idx → EReal) (a1 : (⟨2, ![1056, 2560]⟩ : Shape).Idx → EReal) (o : Fin 1056) (k : Fin 2560) : EReal :=
  a1 (ix2 o k) * a2 (ix2 (⟨o.val / 128, by have := o.isLt; omega⟩ : Fin 9) (⟨k.val / 128, by have := k.isLt; omega⟩ : Fin 20))

/-- A row's product with the weights at an output column. -/
def prd (x : Fin 2560 → EReal) (w : Fin 1056 → Fin 2560 → EReal) (o : Fin 1056) : EReal := ∑ k, act x k * w o k

/-- The first result: the first 768 columns of the product, over their root mean square, times the gain. -/
def qOf (p : Fin 1056 → EReal) (g : (⟨1, ![768]⟩ : Shape).Idx → EReal) (j : Fin 768) : EReal :=
  p ⟨j.val, by have := j.isLt; omega⟩ * Ideal.rsqrt (Ideal.div (∑ i : Fin 768, p ⟨i.val, by have := i.isLt; omega⟩ * p ⟨i.val, by have := i.isLt; omega⟩)
    (Ideal.ofBits .f32 0x44400000#32) + Ideal.ofBits .f32 0x358637BD#32) * g (ix1 j)

/-- The second result: the next 256 columns, likewise. -/
def kvOf (p : Fin 1056 → EReal) (g : (⟨1, ![256]⟩ : Shape).Idx → EReal) (j : Fin 256) : EReal :=
  p ⟨768 + j.val, by have := j.isLt; omega⟩ * Ideal.rsqrt (Ideal.div (∑ i : Fin 256, p ⟨768 + i.val, by have := i.isLt; omega⟩ * p ⟨768 + i.val, by have := i.isLt; omega⟩)
    (Ideal.ofBits .f32 0x43800000#32) + Ideal.ofBits .f32 0x358637BD#32) * g (ix1 j)

/-- The third result: the last 32 columns. -/
def peOf (p : Fin 1056 → EReal) (j : Fin 32) : EReal := p ⟨1024 + j.val, by have := j.isLt; omega⟩

/-! ## The kernel's block functions -/

open Cert.KernelIdeal Cert.KernelIdeal.Gen Cert.KernelIdeal.Block Cert.KernelIdeal.Arrays

theorem biased_apply (v : Vec Ideal S256x128 .bf16) (r : Fin 256) (z : Fin 1) :
    k0_pay221 (F := Ideal) v (ix2 r z) = biased (amax fun j => v (ix2 r j)) := by
  pointwise [k0_pay221, k0_pay220]
  rfl

theorem scl_apply (v : Vec Ideal S256x128 .bf16) (r : Fin 256) (z : Fin 1) (h : Good (amax fun j => v (ix2 r j))) :
    scl (F := Ideal) v (ix2 r z) = gscl fun j => v (ix2 r j) := by
  pointwise [scl, k0_pay222]
  rw [biased_apply]
  exact (scale_eq _ h).1

theorem quo_apply (v : Vec Ideal S256x128 .bf16) (r : Fin 256) (j : Fin 128) (h : Good (amax fun j => v (ix2 r j))) :
    k0_pay223 (F := Ideal) v (ix2 r j) = v (ix2 r j) * ginv fun j => v (ix2 r j) := by
  pointwise [k0_pay223, k0_pay220]
  rw [biased_apply]
  exact congrArg (v (ix2 r j) * ·) (scale_eq _ h).2

theorem cod_apply (v : Vec Ideal S256x128 .bf16) (r : Fin 256) (j : Fin 128) (h : Good (amax fun j => v (ix2 r j))) :
    cod (F := Ideal) v (ix2 r j) = clip (v (ix2 r j) * ginv fun j => v (ix2 r j)) := by
  pointwise [cod, k0_pay224]
  rw [quo_apply v r j h]
  rfl

theorem xat_apply (v : Vec Ideal S256x128 .bf16) (r : Fin 256) (j : Fin 128) (h : Good (amax fun j => v (ix2 r j))) :
    xat (F := Ideal) v (ix2 r j) = clip (v (ix2 r j) * ginv fun j => v (ix2 r j)) * gscl fun j => v (ix2 r j) := by
  have hs := scl_apply v r 0 h
  unfold scl at hs
  pointwise [xat, k0_pay225, k0_pay224]
  rw [quo_apply v r j h, hs]
  rfl

/-- Row `r` of group `n` of a block is group `n` of the block's row. -/
theorem colsOf_row (x1 : Vec Ideal S256x2560 .bf16) (n : ℕ) (r : Fin 256) :
    (fun j : Fin 128 => colsOf x1 n (ix2 r j)) = grp (fun k => x1 (ix2 r k)) n := by
  funext j
  unfold grp
  dsimp only
  rw [ix2_eq_valueIdx, ix2_eq_valueIdx]
  rfl

theorem colsOf_at (x1 : Vec Ideal S256x2560 .bf16) (r : Fin 256) (k : Fin 2560) :
    colsOf x1 (k.val / 128) (ix2 r (lane k)) = x1 (ix2 r k) := by
  have := congrFun (colsOf_row x1 (k.val / 128) r) (lane k)
  refine this.trans ?_
  unfold grp
  refine congrArg (fun q => x1 (ix2 r q)) (Fin.ext ?_)
  have := k.isLt
  show (128 * (k.val / 128) + k.val % 128) % 2560 = k.val
  omega

theorem grpB_cod (x1 : Vec Ideal S256x2560 .bf16) (r : Fin 256) (k : Fin 2560)
    (h : ∀ n < 20, Good (amax (grp (fun k => x1 (ix2 r k)) n))) :
    grpB cod x1 (ix2 r k) = code (fun k => x1 (ix2 r k)) k := by
  have hk := h (k.val / 128) (by have := k.isLt; omega)
  rw [← colsOf_row] at hk
  have := cod_apply (colsOf x1 (k.val / 128)) r (lane k) hk
  rw [colsOf_row, colsOf_at] at this
  refine Eq.trans ?_ this
  rw [ix2_eq_valueIdx, ix2_eq_valueIdx]
  rfl

theorem grpB_xat (x1 : Vec Ideal S256x2560 .bf16) (r : Fin 256) (k : Fin 2560)
    (h : ∀ n < 20, Good (amax (grp (fun k => x1 (ix2 r k)) n))) :
    grpB xat x1 (ix2 r k) = act (fun k => x1 (ix2 r k)) k := by
  have hk := h (k.val / 128) (by have := k.isLt; omega)
  rw [← colsOf_row] at hk
  have := xat_apply (colsOf x1 (k.val / 128)) r (lane k) hk
  rw [colsOf_row, colsOf_at] at this
  refine Eq.trans ?_ this
  rw [ix2_eq_valueIdx, ix2_eq_valueIdx]
  rfl

theorem sclB_apply (x1 : Vec Ideal S256x2560 .bf16) (r : Fin 256) (n : Fin 20)
    (h : ∀ n < 20, Good (amax (grp (fun k => x1 (ix2 r k)) n))) :
    sclB x1 (ix2 r n) = gscl (grp (fun k => x1 (ix2 r k)) n.val) := by
  have hk := h n.val n.isLt
  rw [← colsOf_row] at hk
  have := scl_apply (colsOf x1 n.val) r 0 hk
  rw [colsOf_row] at this
  refine Eq.trans ?_ this
  rw [ix2_eq_valueIdx, ix2_eq_valueIdx]
  rfl

theorem waB_apply (a2 : Vec Ideal S9x20 .f32) (a1 : Vec Ideal S1056x2560 .fp8e4m3) (o : Fin 1056) (k : Fin 2560) :
    waB (F := Ideal) a2 a1 (ix2 o k) = wgt a2 a1 o k := by
  unfold wgt
  rw [ix2_eq_valueIdx, ix2_eq_valueIdx]
  rfl

theorem qB_apply (xa : Vec Ideal S256x2560 .bf16) (wa : Vec Ideal S1056x2560 .bf16) (g : FVec Ideal S768 .f32) (r : Fin 256) (j : Fin 768) :
    qB (F := Ideal) xa wa (shapeCast S1x768 g shapeCasts_S768_S1x768) (ix2 r j) = qOf (fun o => ∑ k, xa (ix2 r k) * wa (ix2 o k)) g j := by
  pointwise [qB, k0_pay372, k0_pay370]
  rfl

theorem kvB_apply (xa : Vec Ideal S256x2560 .bf16) (wa : Vec Ideal S1056x2560 .bf16) (g : FVec Ideal S256 .f32) (r : Fin 256) (j : Fin 256) :
    kvB (F := Ideal) xa wa (shapeCast S1x256 g shapeCasts_S256_S1x256) (ix2 r j) = kvOf (fun o => ∑ k, xa (ix2 r k) * wa (ix2 o k)) g j := by
  pointwise [kvB, k0_pay1, k0_pay374, k0_pay373, k0_pay371, k0_pay370]
  rfl

theorem peB_apply (xa : Vec Ideal S256x2560 .bf16) (wa : Vec Ideal S1056x2560 .bf16) (r : Fin 256) (j : Fin 32) :
    peB (F := Ideal) xa wa (ix2 r j) = peOf (fun o => ∑ k, xa (ix2 r k) * wa (ix2 o k)) j := by
  pointwise [peB, k0_pay2, k0_pay370]
  rfl

/-- A row of the block a row of the activations lies in, at its place there, is that row. -/
theorem rowsOf_apply (a0 : Vec Ideal S4x512x2560 .bf16) (R : Fin 2048) :
    (fun k => rowsOf (F := Ideal) a0 (R.val / 256) (ix2 (blkRow R) k)) = row a0 R := by
  funext k
  have e : rowAt (R.val / 256) (blkRow R) = R := Fin.ext (by
    have := R.isLt
    show (256 * (R.val / 256) + R.val % 256) % 2048 = R.val
    omega)
  show shapeCast S2048x2560 a0 shapeCasts_S4x512x2560_S2048x2560 (ValueIdx.ix2 (rowAt (R.val / 256) (blkRow R)) k) = _
  rw [e, ← ix2_eq_valueIdx]
  pointwise
  rfl

end Cert.Groups

end
-- ==== Proof.Range.lean ====
/- The precondition read at a group: every group's largest magnitude is in the range the scales' two forms agree on. -/
module

public import proofs.«01_k».proof.Pre_groups_in_range
public import proofs.«01_k».proof.Proof.Groups
public import Idealize.ShloMosaic.PureOps.Reduce
public import Idealize.ShloMosaic.PureOps.Ideal.Laws

@[expose] public section

set_option maxRecDepth 16384

noncomputable section

namespace Cert.Range

open Idealize.ShloMosaic Cert.Scale Cert.Groups Cert.Pre_groups_in_range

/-- The shape facts the precondition states. -/
instance facts : Cert.Pre_groups_in_range.Facts where
  shapeCasts_S4x512x2560_S2048x20x128 := by decide
  bitsLt_bf16_f32 := by decide
  reducesTo_S2048x20x128_S2048x20_d2 := by decide
  h_S_ := by decide
  bcast_S_S2048x20 := by decide

theorem reduces : S2048x20x128.Reduces [2] S2048x20 := by decide

/-- The largest element of a group, as the fold over its places. -/
theorem max_apply (x : FVec Ideal S2048x20x128 .f32) (v : FVec Ideal S_ .f32) (r : Fin 2048) (n : Fin 20) :
    Host.reduce FloatOps.maximumf x v Facts.reducesTo_S2048x20x128_S2048x20_d2 Facts.h_S_ (ix2 r n)
      = Finset.univ.fold max (v (Shape.Idx.first Facts.h_S_)) fun k : Fin 128 => x (ix3 r n k) := by
  refine (Host.reduce_eq_fold_single (α := EReal) max x v Facts.reducesTo_S2048x20x128_S2048x20_d2 reduces Facts.h_S_ (ix2 r n)).trans ?_
  refine congrArg (fun f => Finset.univ.fold max (v (Shape.Idx.first Facts.h_S_)) f) (funext fun k => ?_)
  refine congrArg x (funext fun a => ?_)
  match a with
  | ⟨0, _⟩ => rfl
  | ⟨1, _⟩ => rfl
  | ⟨2, _⟩ => rfl

theorem elt_apply (a0 : FVec Ideal S4x512x2560 .bf16) (r : Fin 2048) (n : Fin 20) (j : Fin 128) :
    shapeCast S2048x20x128 a0 Facts.shapeCasts_S4x512x2560_S2048x20x128 (ix3 r n j) = grp (row a0 r) n.val j := by
  pointwise
  refine congrArg (row a0 r) (Fin.ext ?_)
  have := n.isLt; have := j.isLt
  show n.val * 128 + j.val = (128 * n.val + j.val) % 2560
  omega

/-- The test of one group's largest magnitude. -/
def test (M : FVec Ideal S2048x20 .f32) : IVec S2048x20 1 :=
  ori (cmpf .oeq M (broadcastInDim S2048x20 ![] Facts.bcast_S_S2048x20 (constant (F := Ideal) S_ .f32 0x00000000#32)))
    (andi (cmpf .oge (mulf M (broadcastInDim S2048x20 ![] Facts.bcast_S_S2048x20 (constant (F := Ideal) S_ .f32 0x3B124925#32)))
        (broadcastInDim S2048x20 ![] Facts.bcast_S_S2048x20 (constant (F := Ideal) S_ .f32 0x00800000#32)))
      (cmpf .olt (mulf M (broadcastInDim S2048x20 ![] Facts.bcast_S_S2048x20 (constant (F := Ideal) S_ .f32 0x3B124925#32)))
        (broadcastInDim S2048x20 ![] Facts.bcast_S_S2048x20 (constant (F := Ideal) S_ .f32 0x7E800000#32))))

theorem test_apply (M : FVec Ideal S2048x20 .f32) (i : S2048x20.Idx) :
    test M i = IntOp.ori (Ideal.cmp .oeq (M i) (Ideal.ofBits .f32 0x00000000#32))
      (IntOp.andi (Ideal.cmp .oge (M i * cst) (Ideal.ofBits .f32 0x00800000#32)) (Ideal.cmp .olt (M i * cst) (Ideal.ofBits .f32 0x7E800000#32))) := rfl

theorem fn_eq (a0 : FVec Ideal S4x512x2560 .bf16) (a1 : FVec Ideal S1056x2560 .fp8e4m3) (a2 : FVec Ideal S9x20 .f32) (a3 : FVec Ideal S768 .f32) (a4 : FVec Ideal S256 .f32) :
    fn (F := Ideal) a0 a1 a2 a3 a4 = test (Host.reduce FloatOps.maximumf
      (Host.absf (extf .f32 (shapeCast S2048x20x128 a0 Facts.shapeCasts_S4x512x2560_S2048x20x128) Facts.bitsLt_bf16_f32))
      (constant (F := Ideal) S_ .f32 0xFF800000#32) Facts.reducesTo_S2048x20x128_S2048x20_d2 Facts.h_S_) := rfl

/-- The test passes only on a largest magnitude in range. -/
theorem good_of_test (a : EReal)
    (h : IntOp.ori (Ideal.cmp .oeq a (Ideal.ofBits .f32 0x00000000#32))
      (IntOp.andi (Ideal.cmp .oge (a * cst) (Ideal.ofBits .f32 0x00800000#32)) (Ideal.cmp .olt (a * cst) (Ideal.ofBits .f32 0x7E800000#32))) = 1#1) :
    Good a := by
  unfold Ideal.cmp at h
  dsimp only at h
  by_cases h0 : a = Ideal.ofBits .f32 0x00000000#32
  · exact Or.inl (h0.trans Ideal.ofBits_zero_f32)
  by_cases h1 : Ideal.ofBits .f32 0x00800000#32 ≤ a * cst
  · by_cases h2 : a * cst < Ideal.ofBits .f32 0x7E800000#32
    · exact Or.inr ⟨h1, h2⟩
    · rw [decide_eq_false h0, decide_eq_false h2, decide_eq_true h1] at h
      exact absurd h (by decide)
  · rw [decide_eq_false h0, decide_eq_false h1] at h
    by_cases h2 : a * cst < Ideal.ofBits .f32 0x7E800000#32
    · rw [decide_eq_true h2] at h
      exact absurd h (by decide)
    · rw [decide_eq_false h2] at h
      exact absurd h (by decide)

/-- Under the precondition every group is in range. -/
theorem good (a0 : FVec Ideal S4x512x2560 .bf16) (a1 : FVec Ideal S1056x2560 .fp8e4m3) (a2 : FVec Ideal S9x20 .f32) (a3 : FVec Ideal S768 .f32) (a4 : FVec Ideal S256 .f32)
    (h : fn (F := Ideal) a0 a1 a2 a3 a4 = fun _ => 1#1) (r : Fin 2048) (n : Fin 20) : Good (amax (grp (row a0 r) n.val)) := by
  have e : (fun k : Fin 128 => Host.absf (extf (F := Ideal) .f32 (shapeCast S2048x20x128 a0 Facts.shapeCasts_S4x512x2560_S2048x20x128) Facts.bitsLt_bf16_f32) (ix3 r n k))
      = fun k => max (grp (row a0 r) n.val k) (-(grp (row a0 r) n.val k)) :=
    funext fun k => by
      show max (shapeCast S2048x20x128 a0 Facts.shapeCasts_S4x512x2560_S2048x20x128 (ix3 r n k)) (-(shapeCast S2048x20x128 a0 Facts.shapeCasts_S4x512x2560_S2048x20x128 (ix3 r n k))) = _
      rw [elt_apply]
  have h1 := congrFun h (ix2 r n)
  rw [fn_eq, test_apply, max_apply, e] at h1
  exact good_of_test _ h1

end Cert.Range

end
-- ==== Proof.Refs.lean ====
/- The reference's payloads read at an index, over the extended reals: the layer, element by element. -/
module

public import proofs.«01_k».proof.Proof.RefRun
public import proofs.«01_k».proof.Proof.Groups
public import Idealize.ShloMosaic.PureOps.Ideal.Laws

@[expose] public section

set_option maxRecDepth 16384

noncomputable section

namespace Cert.Refs

open Idealize.ShloMosaic Cert.Scale Cert.Groups
open Cert.ReferenceIdeal Cert.ReferenceIdeal.Gen Cert.ReferenceIdeal.Run

/-- The largest element of a group, as the fold over its places. -/
theorem max_apply (x : FVec Ideal S2048x20x128 .f32) (r : Fin 2048) (n : Fin 20) :
    multiReduction (F := Ideal) .maximumf [2] S2048x20 x 0xFF800000#32 reduces_S2048x20x128_S2048x20 (.inl rfl) rfl (ix2 r n)
      = Finset.univ.fold max (Ideal.ofBits .f32 0xFF800000#32) fun k : Fin 128 => x (ix3 r n k) := by
  refine (Ideal.multiReduction_maximumf_single x _ _ _ _ _).trans ?_
  refine congrArg (fun f => Finset.univ.fold max (Ideal.ofBits .f32 0xFF800000#32) f) (funext fun k => ?_)
  refine congrArg x (funext fun a => ?_)
  match a with
  | ⟨0, _⟩ => rfl
  | ⟨1, _⟩ => rfl
  | ⟨2, _⟩ => rfl

theorem elt_apply (a0 : Vec Ideal S4x512x2560 .bf16) (r : Fin 2048) (n : Fin 20) (j : Fin 128) :
    k0_pay2 (F := Ideal) a0 (ix3 r n j) = grp (row a0 r) n.val j := by
  pointwise [k0_pay2]
  refine congrArg (row a0 r) (Fin.ext ?_)
  have := n.isLt; have := j.isLt
  show n.val * 128 + j.val = (128 * n.val + j.val) % 2560
  omega

/-- The exponents of a vector of largest magnitudes, as the reference spells them. -/
def expoV (M : FVec Ideal S2048x20 .f32) : FVec Ideal S2048x20 .f32 :=
  select (cmpf .oeq M (broadcast S2048x20 (Scalar.ofBits .f32 0x00000000#32))) (broadcast S2048x20 (Scalar.ofBits .f32 0x00000000#32))
    (addf (floor (divf (log (mulf M (broadcast S2048x20 (Scalar.ofBits .f32 0x3B124925#32)))) (log (broadcast S2048x20 (Scalar.ofBits .f32 0x40000000#32)))))
      (broadcast S2048x20 (Scalar.ofBits .f32 0x3F800000#32)))

theorem expoV_apply (M : FVec Ideal S2048x20 .f32) (i : S2048x20.Idx) : expoV M i = expo (M i) := rfl

theorem pay3_eq (a0 : Vec Ideal S4x512x2560 .bf16) :
    k0_pay3 (F := Ideal) a0 = expoV (multiReduction (F := Ideal) .maximumf [2] S2048x20 (absf (k0_pay2 a0)) 0xFF800000#32 reduces_S2048x20x128_S2048x20 (.inl rfl) rfl) := rfl

theorem expo_apply (a0 : Vec Ideal S4x512x2560 .bf16) (r : Fin 2048) (n : Fin 20) :
    k0_pay3 (F := Ideal) a0 (ix2 r n) = expo (amax (grp (row a0 r) n.val)) := by
  have e : (fun k : Fin 128 => absf (k0_pay2 (F := Ideal) a0) (ix3 r n k)) = fun k => max (grp (row a0 r) n.val k) (-(grp (row a0 r) n.val k)) :=
    funext fun k => by
      show max (k0_pay2 (F := Ideal) a0 (ix3 r n k)) (-(k0_pay2 (F := Ideal) a0 (ix3 r n k))) = _
      rw [elt_apply]
  rw [pay3_eq, expoV_apply, max_apply, e, amax]

/-- The exponential of a vector, at an index. -/
theorem exp2_at (v : FVec Ideal S2048x20 .f32) (i : S2048x20.Idx) : exp2 v i = Ideal.exp2 (v i) := rfl

/-- Zero less a vector, at an index. -/
theorem neg_at (v : FVec Ideal S2048x20 .f32) (i : S2048x20.Idx) :
    subf (broadcast S2048x20 (Scalar.ofBits .f32 0x00000000#32)) v i = Ideal.ofBits .f32 0x00000000#32 - v i := rfl

/-- A product of two vectors, at an index. -/
theorem mul_at (u : FVec Ideal S2048x20x128 .fp8e4m3) (v : FVec Ideal S2048x20x128 .bf16) (i : S2048x20x128.Idx) :
    mulf (extf .bf16 u bitsLt_fp8e4m3_bf16) v i = u i * v i := rfl

/-- A change of format, at an index. -/
theorem trunc_at (v : FVec Ideal S2048x20 .f32) (i : S2048x20.Idx) : truncf .bf16 v bitsLt_bf16_f32 i = v i := rfl

/-- A product of two vectors held between the codes' bounds, at an index. -/
theorem clip_at (u v : FVec Ideal S2048x20x128 .f32) (i : S2048x20x128.Idx) :
    truncf .fp8e4m3 (minimumf (broadcast S2048x20x128 (Scalar.ofBits .f32 0x43E00000#32))
      (maximumf (broadcast S2048x20x128 (Scalar.ofBits .f32 0xC3E00000#32)) (mulf u v))) bitsLt_fp8e4m3_f32 i = clip (u i * v i) := rfl

theorem scl_apply (a0 : Vec Ideal S4x512x2560 .bf16) (r : Fin 2048) (n : Fin 20) :
    k0_pay4 (F := Ideal) a0 (ix2 r n) = gscl (grp (row a0 r) n.val) := by
  rw [k0_pay4, exp2_at, expo_apply, gscl]

/-- A vector with one number per group, spread over the groups' places, at a place is its group's number. -/
theorem spread_apply {φ : FTy} (v : FVec Ideal S2048x20 φ) (r : Fin 2048) (n : Fin 20) (j : Fin 128) :
    broadcastTo S2048x20x128 (shapeCast S2048x20x1 v shapeCasts_S2048x20_S2048x20x1) broadcasts_S2048x20x1_S2048x20x128 (ix3 r n j) = v (ix2 r n) := by
  refine (broadcastTo_apply _ _ (ix3 r n j) (ix3 r n (0 : Fin 1)) fun a => ?_).trans ?_
  · match a with
    | ⟨0, _⟩ => rfl
    | ⟨1, _⟩ => rfl
    | ⟨2, _⟩ => rfl
  · refine shapeCast_apply _ _ _ _ ?_
    rw [Shape.rowMajor_val_two, Shape.rowMajor_val_three]
    show r.val * 20 + n.val = (r.val * 20 + n.val) * 1 + 0
    omega

/-- The groups' places laid in one row: a column is place `k % 128` of group `k / 128`. -/
theorem flat_apply {φ : FTy} (v : FVec Ideal S2048x20x128 φ) (r : Fin 2048) (k : Fin 2560) :
    shapeCast S2048x2560 v shapeCasts_S2048x20x128_S2048x2560 (ix2 r k)
      = v (ix3 r (⟨k.val / 128, by have := k.isLt; omega⟩ : Fin 20) (⟨k.val % 128, by omega⟩ : Fin 128)) := by
  refine shapeCast_apply _ _ _ _ ?_
  rw [Shape.rowMajor_val_two, Shape.rowMajor_val_three]
  show (r.val * 20 + k.val / 128) * 128 + k.val % 128 = r.val * 2560 + k.val
  omega

theorem code_apply (a0 : Vec Ideal S4x512x2560 .bf16) (r : Fin 2048) (n : Fin 20) (j : Fin 128) :
    k0_pay5 (F := Ideal) a0 (ix3 r n j) = clip (grp (row a0 r) n.val j * ginv (grp (row a0 r) n.val)) := by
  unfold k0_pay5
  rw [clip_at, spread_apply, exp2_at, neg_at, expo_apply, elt_apply, ginv]

theorem grp_at (x : Fin 2560 → EReal) (k : Fin 2560) : grp x (k.val / 128) ⟨k.val % 128, by omega⟩ = x k := by
  unfold grp
  refine congrArg x (Fin.ext ?_)
  have := k.isLt
  show (128 * (k.val / 128) + k.val % 128) % 2560 = k.val
  omega

theorem codes_apply (a0 : Vec Ideal S4x512x2560 .bf16) (r : Fin 2048) (k : Fin 2560) :
    k0_pay6 (F := Ideal) a0 (ix2 r k) = code (row a0 r) k := by
  unfold k0_pay6
  refine (flat_apply _ r k).trans ?_
  rw [code_apply, grp_at]
  rfl

theorem act_apply (a0 : Vec Ideal S4x512x2560 .bf16) (r : Fin 2048) (k : Fin 2560) :
    k0_pay7 (F := Ideal) a0 (ix2 r k) = act (row a0 r) k := by
  unfold k0_pay7
  refine (flat_apply _ r k).trans ?_
  rw [mul_at, spread_apply, trunc_at, code_apply, grp_at, scl_apply, act, code]

theorem prd_apply (xa : FVec Ideal S2048x2560 .bf16) (a2 : Vec Ideal S9x20 .f32) (a1 : Vec Ideal S1056x2560 .fp8e4m3) (r : Fin 2048) (o : Fin 1056) :
    k0_pay8 (F := Ideal) xa a2 a1 (ix2 r o) = ∑ k, xa (ix2 r k) * wgt a2 a1 o k := by
  pointwise [k0_pay8]
  rfl

theorem q_apply (xa : FVec Ideal S2048x2560 .bf16) (a2 : Vec Ideal S9x20 .f32) (a1 : Vec Ideal S1056x2560 .fp8e4m3) (g : Vec Ideal S768 .f32) (r : Fin 2048) (j : Fin 768) :
    k0_pay9 (F := Ideal) xa a2 a1 g (ix2 r j) = qOf (fun o => k0_pay8 (F := Ideal) xa a2 a1 (ix2 r o)) g j := by
  pointwise [k0_pay9]
  rfl

theorem kv_apply (xa : FVec Ideal S2048x2560 .bf16) (a2 : Vec Ideal S9x20 .f32) (a1 : Vec Ideal S1056x2560 .fp8e4m3) (g : Vec Ideal S256 .f32) (r : Fin 2048) (j : Fin 256) :
    k0_pay10 (F := Ideal) xa a2 a1 g (ix2 r j) = kvOf (fun o => k0_pay8 (F := Ideal) xa a2 a1 (ix2 r o)) g j := by
  pointwise [k0_pay10]
  rfl

theorem pe_apply (p : FVec Ideal S2048x1056 .f32) (r : Fin 2048) (j : Fin 32) :
    k0_pay1 (F := Ideal) p (ix2 r j) = peOf (fun o => p (ix2 r o)) j := by
  pointwise [k0_pay1]
  rfl

end Cert.Refs

end
-- ==== Proof.Equal.lean ====
/- The two programs' result arrays are equal on arguments in range. -/
module

public import proofs.«01_k».proof.Proof.Refs

@[expose] public section

set_option maxRecDepth 16384

noncomputable section

namespace Cert.Equal

open Idealize.ShloMosaic Cert.Scale Cert.Groups Cert.KernelIdeal Cert.KernelIdeal.Gen Cert.KernelIdeal.Block Cert.KernelIdeal.Arrays

variable (a0 : Vec Ideal S4x512x2560 .bf16) (a1 : Vec Ideal S1056x2560 .fp8e4m3) (a2 : Vec Ideal S9x20 .f32) (a3 : Vec Ideal S768 .f32) (a4 : Vec Ideal S256 .f32)

/-- Every group of every row is in range. -/
def InRange : Prop := ∀ (R : Fin 2048) (n : Fin 20), Good (amax (grp (row a0 R) n.val))

/-! ## The reference -/

/-- The dequantised activations the frame names are the ones of the whole array. -/
theorem pay11_eq : Cert.ReferenceIdeal.Gen.k0_pay11 (F := Ideal) a0 a1 a2 a3 a4 = Cert.ReferenceIdeal.Gen.k0_pay7 a0 := by
  unfold Cert.ReferenceIdeal.Gen.k0_pay11
  rw [View.ld_unit_zero (S := Cert.ReferenceIdeal.S4x512x2560) Cert.ReferenceIdeal.Run.hz0 _ a0]

/-- The reference's product of a row with the weights. -/
theorem refPrd (R : Fin 2048) : (fun o => Cert.ReferenceIdeal.Gen.k0_pay8 (F := Ideal) (Cert.ReferenceIdeal.Gen.k0_pay11 a0 a1 a2 a3 a4) a2 a1 (ix2 R o)) = prd (row a0 R) (wgt a2 a1) := by
  funext o
  rw [pay11_eq, Cert.Refs.prd_apply, prd]
  exact Finset.sum_congr rfl fun k _ => by rw [Cert.Refs.act_apply]

theorem ref5 (R : Fin 2048) (j : Fin 768) : Cert.ReferenceIdeal.Run.G5 (F := Ideal) a0 a1 a2 a3 a4 (ix2 R j) = qOf (prd (row a0 R) (wgt a2 a1)) a3 j :=
  (Cert.Refs.q_apply _ a2 a1 a3 R j).trans (congrArg (fun p => qOf p a3 j) (refPrd a0 a1 a2 a3 a4 R))

theorem ref6 (R : Fin 2048) (j : Fin 256) : Cert.ReferenceIdeal.Run.G6 (F := Ideal) a0 a1 a2 a3 a4 (ix2 R j) = kvOf (prd (row a0 R) (wgt a2 a1)) a4 j :=
  (Cert.Refs.kv_apply _ a2 a1 a4 R j).trans (congrArg (fun p => kvOf p a4 j) (refPrd a0 a1 a2 a3 a4 R))

theorem ref7 (R : Fin 2048) (j : Fin 32) : Cert.ReferenceIdeal.Run.G7 (F := Ideal) a0 a1 a2 a3 a4 (ix2 R j) = peOf (prd (row a0 R) (wgt a2 a1)) j :=
  (Cert.Refs.pe_apply _ R j).trans (congrArg (fun p => peOf p j) (refPrd a0 a1 a2 a3 a4 R))

theorem ref8 (R : Fin 2048) (k : Fin 2560) : Cert.ReferenceIdeal.Run.G8 (F := Ideal) a0 a1 a2 a3 a4 (ix2 R k) = code (row a0 R) k :=
  Cert.Refs.codes_apply a0 R k

theorem ref9 (R : Fin 2048) (n : Fin 20) : Cert.ReferenceIdeal.Run.G9 (F := Ideal) a0 a1 a2 a3 a4 (ix2 R n) = gscl (grp (row a0 R) n.val) :=
  Cert.Refs.scl_apply a0 R n

/-! ## The kernel -/

variable {a0} in
/-- In range, row by row of the block a row lies in. -/
theorem InRange.at (h : InRange a0) (R : Fin 2048) : ∀ n < 20, Good (amax (grp (fun k => rowsOf (F := Ideal) a0 (R.val / 256) (ix2 (blkRow R) k)) n)) := by
  intro n hn
  rw [rowsOf_apply]
  exact h R ⟨n, hn⟩

variable (h : InRange a0)
include h

/-- The kernel's product of a row with the weights. -/
theorem kerPrd (R : Fin 2048) : (fun o => ∑ k, grpB xat (rowsOf (F := Ideal) a0 (R.val / 256)) (ix2 (blkRow R) k) * waB a2 a1 (ix2 o k)) = prd (row a0 R) (wgt a2 a1) := by
  funext o
  rw [prd]
  exact Finset.sum_congr rfl fun k _ => by rw [grpB_xat _ _ _ (h.at R), waB_apply, rowsOf_apply]

theorem ker5 (R : Fin 2048) (j : Fin 768) : (outsOf (F := Ideal) a0 a1 a2 a3 a4 (R.val / 256)).1 (ix2 (blkRow R) j) = qOf (prd (row a0 R) (wgt a2 a1)) a3 j :=
  (qB_apply _ _ a3 (blkRow R) j).trans (congrArg (fun p => qOf p a3 j) (kerPrd a0 a1 a2 h R))

theorem ker6 (R : Fin 2048) (j : Fin 256) : (outsOf (F := Ideal) a0 a1 a2 a3 a4 (R.val / 256)).2.1 (ix2 (blkRow R) j) = kvOf (prd (row a0 R) (wgt a2 a1)) a4 j :=
  (kvB_apply _ _ a4 (blkRow R) j).trans (congrArg (fun p => kvOf p a4 j) (kerPrd a0 a1 a2 h R))

theorem ker7 (R : Fin 2048) (j : Fin 32) : (outsOf (F := Ideal) a0 a1 a2 a3 a4 (R.val / 256)).2.2.1 (ix2 (blkRow R) j) = peOf (prd (row a0 R) (wgt a2 a1)) j :=
  (peB_apply _ _ (blkRow R) j).trans (congrArg (fun p => peOf p j) (kerPrd a0 a1 a2 h R))

theorem ker8 (R : Fin 2048) (k : Fin 2560) : (outsOf (F := Ideal) a0 a1 a2 a3 a4 (R.val / 256)).2.2.2.1 (ix2 (blkRow R) k) = code (row a0 R) k :=
  (grpB_cod _ (blkRow R) k (h.at R)).trans (congrArg (fun x => code x k) (rowsOf_apply a0 R))

theorem ker9 (R : Fin 2048) (n : Fin 20) : (outsOf (F := Ideal) a0 a1 a2 a3 a4 (R.val / 256)).2.2.2.2.1 (ix2 (blkRow R) n) = gscl (grp (row a0 R) n.val) :=
  (sclB_apply _ (blkRow R) n (h.at R)).trans (congrArg (fun x => gscl (grp x n.val)) (rowsOf_apply a0 R))

omit h

/-! ## The arrays -/

variable (m : (ℓ : Loc nD τ sig) → Buf (Elt Ideal) ℓ) (c : Dev nD)

/-- Two arrays equal at every row and column are equal. -/
theorem ext2 {n0 n1 : ℕ} {α : Type} (f g : (⟨2, ![n0, n1]⟩ : Shape).Idx → α) (h : ∀ (r : Fin n0) (j : Fin n1), f (ix2 r j) = g (ix2 r j)) : f = g := by
  funext i
  rw [eq_ix2 i]
  exact h _ _

/-- The first result. -/
theorem arr5 (h : InRange (m ((c.tc : Thread nD τ).loc main_arg0))) : Cert.KernelIdeal.Value.G5 m c = Cert.ReferenceIdeal.Run.G5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ext2 (n0 := 2048) (n1 := 768) _ _ fun R j => by
    refine Eq.trans ?_ ((ker5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h R j).trans (ref5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R j).symm)
    rw [ix2_eq_valueIdx, ix2_eq_valueIdx]
    exact G5_eq m c R j

/-- The second result. -/
theorem arr6 (h : InRange (m ((c.tc : Thread nD τ).loc main_arg0))) : Cert.KernelIdeal.Value.G6 m c = Cert.ReferenceIdeal.Run.G6 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ext2 (n0 := 2048) (n1 := 256) _ _ fun R j => by
    refine Eq.trans ?_ ((ker6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h R j).trans (ref6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R j).symm)
    rw [ix2_eq_valueIdx, ix2_eq_valueIdx]
    exact G6_eq m c R j

/-- The third result. -/
theorem arr7 (h : InRange (m ((c.tc : Thread nD τ).loc main_arg0))) : Cert.KernelIdeal.Value.G7 m c = Cert.ReferenceIdeal.Run.G7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ext2 (n0 := 2048) (n1 := 32) _ _ fun R j => by
    refine Eq.trans ?_ ((ker7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h R j).trans (ref7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R j).symm)
    rw [ix2_eq_valueIdx, ix2_eq_valueIdx]
    exact G7_eq m c R j

/-- The fourth result. -/
theorem arr8 (h : InRange (m ((c.tc : Thread nD τ).loc main_arg0))) : Cert.KernelIdeal.Value.G8 m c = Cert.ReferenceIdeal.Run.G8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ext2 (n0 := 2048) (n1 := 2560) _ _ fun R j => by
    refine Eq.trans ?_ ((ker8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h R j).trans (ref8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R j).symm)
    rw [ix2_eq_valueIdx, ix2_eq_valueIdx]
    exact G8_eq m c R j

/-- The fifth result. -/
theorem arr9 (h : InRange (m ((c.tc : Thread nD τ).loc main_arg0))) : Cert.KernelIdeal.Value.G9 m c = Cert.ReferenceIdeal.Run.G9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  ext2 (n0 := 2048) (n1 := 20) _ _ fun R j => by
    refine Eq.trans ?_ ((ker9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) h R j).trans (ref9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R j).symm)
    rw [ix2_eq_valueIdx, ix2_eq_valueIdx]
    exact G9_eq m c R j

end Cert.Equal

end
-- ==== Proof.lean ====
module

public import proofs.«01_k».proof.Defs
public import proofs.«01_k».proof.Proof.Gen.Kernel.Frame
public import proofs.«01_k».proof.Proof.Gen.KernelIdeal.Value
public import proofs.«01_k».proof.Proof.RefRun
public import proofs.«01_k».proof.Proof.Range
public import proofs.«01_k».proof.Proof.Equal

@[expose] public section

open Idealize.ShloMosaic

/-- The two programs, run on equal arguments in range, end with equal results and their arguments as they were. -/
theorem Cert.Proof.algebraic : Cert.algebraic_KernelIdeal_ReferenceIdeal_pre_groups_in_range := by
  intro m g m' g' hp ha
  have hr : ∀ c : Dev Cert.KernelIdeal.nD, Cert.Equal.InRange (m ((c.tc : Thread Cert.KernelIdeal.nD Cert.KernelIdeal.τ).loc Cert.KernelIdeal.main_arg0)) :=
    fun c R n => Cert.Range.good _ _ _ _ _ (hp c) R n
  refine ⟨fun c => Cert.KernelIdeal.Value.G5 m c, fun c => Cert.KernelIdeal.Value.G6 m c, fun c => Cert.KernelIdeal.Value.G7 m c,
    fun c => Cert.KernelIdeal.Value.G8 m c, fun c => Cert.KernelIdeal.Value.G9 m c, Cert.KernelIdeal.Value.run m g, ?_⟩
  refine (θ_run _ _ _).mono (fun r h c => ?_) (Cert.ReferenceIdeal.Run.run m' g')
  obtain ⟨h5, h6, h7, h8, h9, hk⟩ := h c
  obtain ⟨e0, e1, e2, e3, e4⟩ := ha c
  rw [e0, e1, e2, e3, e4] at h5 h6 h7 h8 h9
  exact ⟨h5.trans (Cert.Equal.arr5 m c (hr c)).symm, h6.trans (Cert.Equal.arr6 m c (hr c)).symm, h7.trans (Cert.Equal.arr7 m c (hr c)).symm,
    h8.trans (Cert.Equal.arr8 m c (hr c)).symm, h9.trans (Cert.Equal.arr9 m c (hr c)).symm, hk⟩

/-- Every claim. -/
theorem Cert.Proof.claim : Cert.Claim :=
  ⟨Cert.Kernel.Gen.facts, Cert.KernelIdeal.Gen.facts, Cert.ReferenceIdeal.Gen.facts, Cert.Range.facts,
    fun m g _ => Cert.Kernel.Gen.frame m g, fun m g _ => Cert.KernelIdeal.Gen.frame m g, fun m g _ => Cert.KernelIdeal.Gen.frame m g,
    fun m g _ => Cert.ReferenceIdeal.Gen.frame m g, fun m g _ => Cert.ReferenceIdeal.Gen.frame m g, trivial, Cert.Proof.algebraic⟩
